-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S64x2x256 Cert.KernelIdeal.S64x1x256
  ∧ IdealRules.bf16_pair.PackStatement Cert.KernelIdeal.S64x256
  ∧ IdealRules.bf16_pair.Statement Cert.KernelIdeal.S64x2x256 Cert.KernelIdeal.S64x1x256
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x8192 : Shape := ⟨3, ![96, 1, 8192]⟩
abbrev S7424x2048x3 : Shape := ⟨3, ![7424, 2048, 3]⟩
abbrev S7424 : Shape := ⟨1, ![7424]⟩
abbrev S7424x64 : Shape := ⟨2, ![7424, 64]⟩
abbrev S3x7424x2048 : Shape := ⟨3, ![3, 7424, 2048]⟩
abbrev S96x8192 : Shape := ⟨2, ![96, 8192]⟩
abbrev S64x7424 : Shape := ⟨2, ![64, 7424]⟩
abbrev S1x7424 : Shape := ⟨2, ![1, 7424]⟩
abbrev S96x7424 : Shape := ⟨2, ![96, 7424]⟩
abbrev S3x256x2048 : Shape := ⟨3, ![3, 256, 2048]⟩
abbrev S64x256 : Shape := ⟨2, ![64, 256]⟩
abbrev S1x256 : Shape := ⟨2, ![1, 256]⟩
abbrev S96x256 : Shape := ⟨2, ![96, 256]⟩
abbrev S3x2048x256 : Shape := ⟨3, ![3, 2048, 256]⟩
abbrev S96x128 : Shape := ⟨2, ![96, 128]⟩
abbrev S96x128x1 : Shape := ⟨3, ![96, 128, 1]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S8x128 : Shape := ⟨2, ![8, 128]⟩
abbrev S1x128 : Shape := ⟨2, ![1, 128]⟩
abbrev S16x128 : Shape := ⟨2, ![16, 128]⟩
abbrev S128x256 : Shape := ⟨2, ![128, 256]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S96x1x8192, .bf16⟩
  | .hbm, ⟨1, _⟩ => ⟨S7424x2048x3, .i8⟩
  | .hbm, ⟨2, _⟩ => ⟨S7424, .f32⟩
  | .hbm, ⟨3, _⟩ => ⟨S7424x64, .f32⟩
  | .hbm, ⟨4, _⟩ => ⟨S3x7424x2048, .i8⟩
  | .hbm, ⟨5, _⟩ => ⟨S96x8192, .bf16⟩
  | .hbm, ⟨6, _⟩ => ⟨S64x7424, .f32⟩
  | .hbm, ⟨7, _⟩ => ⟨S1x7424, .f32⟩
  | .hbm, ⟨8, _⟩ => ⟨S96x7424, .bf16⟩
  | .local _ .vmem, ⟨0, _⟩ => ⟨S96x8192, .bf16⟩
  | .local _ .vmem, ⟨1, _⟩ => ⟨S3x256x2048, .i8⟩
  | .local _ .vmem, ⟨2, _⟩ => ⟨S3x256x2048, .i8⟩
  | .local _ .vmem, ⟨3, _⟩ => ⟨S64x256, .f32⟩
  | .local _ .vmem, ⟨4, _⟩ => ⟨S64x256, .f32⟩
  | .local _ .vmem, ⟨5, _⟩ => ⟨S1x256, .f32⟩
  | .local _ .vmem, ⟨6, _⟩ => ⟨S1x256, .f32⟩
  | .local _ .vmem, ⟨7, _⟩ => ⟨S96x256, .bf16⟩
  | .local _ .vmem, ⟨8, _⟩ => ⟨S96x256, .bf16⟩
  | .local _ .vmem, ⟨9, _⟩ => ⟨S96x8192, .bf16⟩
  | .local _ .vmem, ⟨10, _⟩ => ⟨S3x2048x256, .i8⟩
  | .local _ .vmem, ⟨11, _⟩ => ⟨S64x256, .i32⟩
  | _, _ => ⟨S96x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![30], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c29_i32 : BitVec 32 := 29#32
  let v4 : BitVec 1 := Scalar.cmpi .slt arg0 c29_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c29_i32_3 : BitVec 32 := 29#32
  let v8 : BitVec 1 := Scalar.cmpi .eq arg0 c29_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c28_i32 : BitVec 32 := 28#32
  let v0 : BitVec 32 := Scalar.minsi arg0 c28_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S96x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x256x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S64x2x256 : Shape := ⟨3, ![64, 2, 256]⟩
abbrev S64x1x256 : Shape := ⟨3, ![64, 1, 256]⟩
abbrev S1x2x128 : Shape := ⟨3, ![1, 2, 128]⟩
abbrev S1x1x128 : Shape := ⟨3, ![1, 1, 128]⟩
  | .local _ .vmem, ⟨11, _⟩ => ⟨S64x2x256, .bf16⟩
variable {F : FTy → Type} [FloatOps F]
-- ==== ReferenceIdeal.lean ====
abbrev S96x1x8192 : Shape := ⟨3, ![96, 1, 8192]⟩
abbrev S7424x2048x3 : Shape := ⟨3, ![7424, 2048, 3]⟩
abbrev S7424 : Shape := ⟨1, ![7424]⟩
abbrev S7424x64 : Shape := ⟨2, ![7424, 64]⟩
abbrev S7424x2048x1 : Shape := ⟨3, ![7424, 2048, 1]⟩
abbrev S7424x2048 : Shape := ⟨2, ![7424, 2048]⟩
abbrev S_ : Shape := ⟨0, ![]⟩
abbrev S96x1x64x32x4 : Shape := ⟨5, ![96, 1, 64, 32, 4]⟩
abbrev S7424x64x1 : Shape := ⟨3, ![7424, 64, 1]⟩
abbrev S7424x64x32 : Shape := ⟨3, ![7424, 64, 32]⟩
abbrev S96x1x64x32x1 : Shape := ⟨5, ![96, 1, 64, 32, 1]⟩
abbrev S96x1x64x32 : Shape := ⟨4, ![96, 1, 64, 32]⟩
abbrev S96x1x7424 : Shape := ⟨3, ![96, 1, 7424]⟩
abbrev S1x1x7424 : Shape := ⟨3, ![1, 1, 7424]⟩
abbrev S96x7424 : Shape := ⟨2, ![96, 7424]⟩

abbrev nBuf : Space → Nat
  | .hbm => 242
  | .vmem => 0
  | .smem => 0
  | _ => 0

abbrev hbmTy0_0 (i : Nat) : BufTy := match i % 128 with
  | 0 => ⟨S96x1x8192, .bf16⟩
  | 1 => ⟨S7424x2048x3, .i8⟩
  | 2 => ⟨S7424, .f32⟩
  | 3 => ⟨S7424x64, .f32⟩
  | 4 => ⟨S7424x2048x3, .i32⟩
  | 5 => ⟨S7424x2048x1, .i32⟩
  | 6 => ⟨S7424x2048, .i32⟩
  | 7 => ⟨S7424x2048x1, .i32⟩
  | 8 => ⟨S7424x2048, .i32⟩
  | 9 => ⟨S_, .i32⟩
  | 10 => ⟨S7424x2048, .i32⟩
  | 11 => ⟨S7424x2048, .i32⟩
  | 12 => ⟨S7424x2048, .i32⟩
  | 13 => ⟨S7424x2048x1, .i32⟩
  | 14 => ⟨S7424x2048, .i32⟩
  | 15 => ⟨S_, .i32⟩
  | 16 => ⟨S7424x2048, .i32⟩
  | 17 => ⟨S7424x2048, .i32⟩
  | 18 => ⟨S7424x2048, .i32⟩
  | 19 => ⟨S96x1x64x32x4, .bf16⟩
  | 20 => ⟨S7424x64, .bf16⟩
  | 21 => ⟨S7424x64x1, .bf16⟩
  | 22 => ⟨S_, .i32⟩
  | 23 => ⟨S7424x2048, .i32⟩
  | 24 => ⟨S7424x2048, .i32⟩
  | 25 => ⟨S_, .i32⟩
  | 26 => ⟨S7424x2048, .i32⟩
  | 27 => ⟨S7424x2048, .i32⟩
  | 28 => ⟨S_, .i32⟩
  | 29 => ⟨S7424x2048, .i32⟩
  | 30 => ⟨S7424x2048, .i32⟩
  | 31 => ⟨S7424x2048, .f32⟩
  | 32 => ⟨S_, .i32⟩
  | 33 => ⟨S7424x2048, .i32⟩
  | 34 => ⟨S7424x2048, .i32⟩
  | 35 => ⟨S_, .i32⟩
  | 36 => ⟨S7424x2048, .i32⟩
  | 37 => ⟨S7424x2048, .i32⟩
  | 38 => ⟨S7424x2048, .i32⟩
  | 39 => ⟨S_, .i32⟩
  | 40 => ⟨S7424x2048, .i32⟩
  | 41 => ⟨S7424x2048, .i32⟩
  | 42 => ⟨S7424x2048, .f32⟩
  | 43 => ⟨S_, .i32⟩
  | 44 => ⟨S7424x2048, .i32⟩
  | 45 => ⟨S7424x2048, .i32⟩
  | 46 => ⟨S7424x2048, .f32⟩
  | 47 => ⟨S_, .f32⟩
  | 48 => ⟨S7424x2048, .f32⟩
  | 49 => ⟨S7424x2048, .f32⟩
  | 50 => ⟨S_, .i32⟩
  | 51 => ⟨S7424x2048, .i32⟩
  | 52 => ⟨S7424x2048, .i1⟩
  | 53 => ⟨S_, .f32⟩
  | 54 => ⟨S7424x2048, .f32⟩
  | 55 => ⟨S7424x2048, .f32⟩
  | 56 => ⟨S_, .f32⟩
  | 57 => ⟨S7424x2048, .f32⟩
  | 58 => ⟨S7424x2048, .f32⟩
  | 59 => ⟨S7424x2048, .f32⟩
  | 60 => ⟨S7424x2048, .f32⟩
  | 61 => ⟨S_, .f32⟩
  | 62 => ⟨S7424x2048, .f32⟩
  | 63 => ⟨S7424x2048, .f32⟩
  | 64 => ⟨S_, .f32⟩
  | 65 => ⟨S7424x2048, .f32⟩
  | 66 => ⟨S7424x2048, .f32⟩
  | 67 => ⟨S7424x2048, .f32⟩
  | 68 => ⟨S7424x2048, .bf16⟩
  | 69 => ⟨S7424x64x32, .bf16⟩
  | 70 => ⟨S7424x64x32, .bf16⟩
  | 71 => ⟨S7424x64x32, .bf16⟩
  | 72 => ⟨S96x1x64x32x1, .bf16⟩
  | 73 => ⟨S96x1x64x32, .bf16⟩
  | 74 => ⟨S96x1x7424, .f32⟩
  | 75 => ⟨S_, .i32⟩
  | 76 => ⟨S7424x2048, .i32⟩
  | 77 => ⟨S7424x2048, .i32⟩
  | 78 => ⟨S_, .i32⟩
  | 79 => ⟨S7424x2048, .i32⟩
  | 80 => ⟨S7424x2048, .i32⟩
  | 81 => ⟨S_, .i32⟩
  | 82 => ⟨S7424x2048, .i32⟩
  | 83 => ⟨S7424x2048, .i32⟩
  | 84 => ⟨S7424x2048, .f32⟩
  | 85 => ⟨S_, .i32⟩
  | 86 => ⟨S7424x2048, .i32⟩
  | 87 => ⟨S7424x2048, .i32⟩
  | 88 => ⟨S_, .i32⟩
  | 89 => ⟨S7424x2048, .i32⟩
  | 90 => ⟨S7424x2048, .i32⟩
  | 91 => ⟨S7424x2048, .i32⟩
  | 92 => ⟨S_, .i32⟩
  | 93 => ⟨S7424x2048, .i32⟩
  | 94 => ⟨S7424x2048, .i32⟩
  | 95 => ⟨S7424x2048, .f32⟩
  | 96 => ⟨S_, .i32⟩
  | 97 => ⟨S7424x2048, .i32⟩
  | 98 => ⟨S7424x2048, .i32⟩
  | 99 => ⟨S7424x2048, .f32⟩
  | 100 => ⟨S_, .f32⟩
  | 101 => ⟨S7424x2048, .f32⟩
  | 102 => ⟨S7424x2048, .f32⟩
  | 103 => ⟨S_, .i32⟩
  | 104 => ⟨S7424x2048, .i32⟩
  | 105 => ⟨S7424x2048, .i1⟩
  | 106 => ⟨S_, .f32⟩
  | 107 => ⟨S7424x2048, .f32⟩
  | 108 => ⟨S7424x2048, .f32⟩
  | 109 => ⟨S_, .f32⟩
  | 110 => ⟨S7424x2048, .f32⟩
  | 111 => ⟨S7424x2048, .f32⟩
  | 112 => ⟨S7424x2048, .f32⟩
  | 113 => ⟨S7424x2048, .f32⟩
  | 114 => ⟨S_, .f32⟩
  | 115 => ⟨S7424x2048, .f32⟩
  | 116 => ⟨S7424x2048, .f32⟩
  | 117 => ⟨S_, .f32⟩
  | 118 => ⟨S7424x2048, .f32⟩
  | 119 => ⟨S7424x2048, .f32⟩
  | 120 => ⟨S7424x2048, .f32⟩
  | 121 => ⟨S7424x2048, .bf16⟩
  | 122 => ⟨S7424x64x32, .bf16⟩
  | 123 => ⟨S7424x64x32, .bf16⟩
  | 124 => ⟨S7424x64x32, .bf16⟩
  | 125 => ⟨S96x1x64x32x1, .bf16⟩
  | 126 => ⟨S96x1x64x32, .bf16⟩
  | 127 => ⟨S96x1x7424, .f32⟩
  | _ => ⟨S96x1x8192, .bf16⟩

abbrev hbmTy0_1 (i : Nat) : BufTy := match i % 128 with
  | 0 => ⟨S96x1x7424, .f32⟩
  | 1 => ⟨S_, .i32⟩
  | 2 => ⟨S7424x2048, .i32⟩
  | 3 => ⟨S7424x2048, .i32⟩
  | 4 => ⟨S_, .i32⟩
  | 5 => ⟨S7424x2048, .i32⟩
  | 6 => ⟨S7424x2048, .i32⟩
  | 7 => ⟨S_, .i32⟩
  | 8 => ⟨S7424x2048, .i32⟩
  | 9 => ⟨S7424x2048, .i32⟩
  | 10 => ⟨S7424x2048, .f32⟩
  | 11 => ⟨S_, .i32⟩
  | 12 => ⟨S7424x2048, .i32⟩
  | 13 => ⟨S7424x2048, .i32⟩
  | 14 => ⟨S_, .i32⟩
  | 15 => ⟨S7424x2048, .i32⟩
  | 16 => ⟨S7424x2048, .i32⟩
  | 17 => ⟨S7424x2048, .i32⟩
  | 18 => ⟨S_, .i32⟩
  | 19 => ⟨S7424x2048, .i32⟩
  | 20 => ⟨S7424x2048, .i32⟩
  | 21 => ⟨S7424x2048, .f32⟩
  | 22 => ⟨S_, .i32⟩
  | 23 => ⟨S7424x2048, .i32⟩
  | 24 => ⟨S7424x2048, .i32⟩
  | 25 => ⟨S7424x2048, .f32⟩
  | 26 => ⟨S_, .f32⟩
  | 27 => ⟨S7424x2048, .f32⟩
  | 28 => ⟨S7424x2048, .f32⟩
  | 29 => ⟨S_, .i32⟩
  | 30 => ⟨S7424x2048, .i32⟩
  | 31 => ⟨S7424x2048, .i1⟩
  | 32 => ⟨S_, .f32⟩
  | 33 => ⟨S7424x2048, .f32⟩
  | 34 => ⟨S7424x2048, .f32⟩
  | 35 => ⟨S_, .f32⟩
  | 36 => ⟨S7424x2048, .f32⟩
  | 37 => ⟨S7424x2048, .f32⟩
  | 38 => ⟨S7424x2048, .f32⟩
  | 39 => ⟨S7424x2048, .f32⟩
  | 40 => ⟨S_, .f32⟩
  | 41 => ⟨S7424x2048, .f32⟩
  | 42 => ⟨S7424x2048, .f32⟩
  | 43 => ⟨S_, .f32⟩
  | 44 => ⟨S7424x2048, .f32⟩
  | 45 => ⟨S7424x2048, .f32⟩
  | 46 => ⟨S7424x2048, .f32⟩
  | 47 => ⟨S7424x2048, .bf16⟩
  | 48 => ⟨S7424x64x32, .bf16⟩
  | 49 => ⟨S7424x64x32, .bf16⟩
  | 50 => ⟨S7424x64x32, .bf16⟩
  | 51 => ⟨S96x1x64x32x1, .bf16⟩
  | 52 => ⟨S96x1x64x32, .bf16⟩
  | 53 => ⟨S96x1x7424, .f32⟩
  | 54 => ⟨S96x1x7424, .f32⟩
  | 55 => ⟨S_, .i32⟩
  | 56 => ⟨S7424x2048, .i32⟩
  | 57 => ⟨S7424x2048, .i32⟩
  | 58 => ⟨S_, .i32⟩
  | 59 => ⟨S7424x2048, .i32⟩
  | 60 => ⟨S7424x2048, .i32⟩
  | 61 => ⟨S_, .i32⟩
  | 62 => ⟨S7424x2048, .i32⟩
  | 63 => ⟨S7424x2048, .i32⟩
  | 64 => ⟨S7424x2048, .f32⟩
  | 65 => ⟨S_, .i32⟩
  | 66 => ⟨S7424x2048, .i32⟩
  | 67 => ⟨S7424x2048, .i32⟩
  | 68 => ⟨S_, .i32⟩
  | 69 => ⟨S7424x2048, .i32⟩
  | 70 => ⟨S7424x2048, .i32⟩
  | 71 => ⟨S7424x2048, .i32⟩
  | 72 => ⟨S_, .i32⟩
  | 73 => ⟨S7424x2048, .i32⟩
  | 74 => ⟨S7424x2048, .i32⟩
  | 75 => ⟨S7424x2048, .f32⟩
  | 76 => ⟨S_, .i32⟩
  | 77 => ⟨S7424x2048, .i32⟩
  | 78 => ⟨S7424x2048, .i32⟩
  | 79 => ⟨S7424x2048, .f32⟩
  | 80 => ⟨S_, .f32⟩
  | 81 => ⟨S7424x2048, .f32⟩
  | 82 => ⟨S7424x2048, .f32⟩
  | 83 => ⟨S_, .i32⟩
  | 84 => ⟨S7424x2048, .i32⟩
  | 85 => ⟨S7424x2048, .i1⟩
  | 86 => ⟨S_, .f32⟩
  | 87 => ⟨S7424x2048, .f32⟩
  | 88 => ⟨S7424x2048, .f32⟩
  | 89 => ⟨S_, .f32⟩
  | 90 => ⟨S7424x2048, .f32⟩
  | 91 => ⟨S7424x2048, .f32⟩
  | 92 => ⟨S7424x2048, .f32⟩
  | 93 => ⟨S7424x2048, .f32⟩
  | 94 => ⟨S_, .f32⟩
  | 95 => ⟨S7424x2048, .f32⟩
  | 96 => ⟨S7424x2048, .f32⟩
  | 97 => ⟨S_, .f32⟩
  | 98 => ⟨S7424x2048, .f32⟩
  | 99 => ⟨S7424x2048, .f32⟩
  | 100 => ⟨S7424x2048, .f32⟩
  | 101 => ⟨S7424x2048, .bf16⟩
  | 102 => ⟨S7424x64x32, .bf16⟩
  | 103 => ⟨S7424x64x32, .bf16⟩
  | 104 => ⟨S7424x64x32, .bf16⟩
  | 105 => ⟨S96x1x64x32x1, .bf16⟩
  | 106 => ⟨S96x1x64x32, .bf16⟩
  | 107 => ⟨S96x1x7424, .f32⟩
  | 108 => ⟨S96x1x7424, .f32⟩
  | 109 => ⟨S1x1x7424, .f32⟩
  | 110 => ⟨S96x1x7424, .f32⟩
  | 111 => ⟨S96x1x7424, .f32⟩
  | 112 => ⟨S96x1x7424, .bf16⟩
  | 113 => ⟨S96x7424, .bf16⟩
  | _ => ⟨S96x1x8192, .bf16⟩

abbrev hbmTy (i : Nat) : BufTy := match i / 128 with
  | 0 => hbmTy0_0 i
  | 1 => hbmTy0_1 i
  | _ => ⟨S96x1x8192, .bf16⟩

abbrev bufTy : (tb : Table) → Fin (tcTables nBuf tb) → BufTy
  | .hbm, ⟨i, _⟩ => hbmTy i
  | _, _ => ⟨S96x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_c_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_16 : Ref sig .tc := ⟨.hbm, 85, rfl⟩
abbrev main_v63 : Ref sig .tc := ⟨.hbm, 86, rfl⟩
abbrev main_v64 : Ref sig .tc := ⟨.hbm, 87, rfl⟩
abbrev main_c_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_18 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_20 : Ref sig .tc := ⟨.hbm, 100, rfl⟩
abbrev main_v74 : Ref sig .tc := ⟨.hbm, 101, rfl⟩
abbrev main_v75 : Ref sig .tc := ⟨.hbm, 102, rfl⟩
abbrev main_c_21 : Ref sig .tc := ⟨.hbm, 103, rfl⟩
abbrev main_v76 : Ref sig .tc := ⟨.hbm, 104, rfl⟩
abbrev main_v77 : Ref sig .tc := ⟨.hbm, 105, rfl⟩
abbrev main_cst_22 : Ref sig .tc := ⟨.hbm, 106, rfl⟩
abbrev main_v78 : Ref sig .tc := ⟨.hbm, 107, rfl⟩
abbrev main_v79 : Ref sig .tc := ⟨.hbm, 108, rfl⟩
abbrev main_cst_23 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_24 : Ref sig .tc := ⟨.hbm, 114, rfl⟩
abbrev main_v84 : Ref sig .tc := ⟨.hbm, 115, rfl⟩
abbrev main_v85 : Ref sig .tc := ⟨.hbm, 116, rfl⟩
abbrev main_cst_25 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_26 : Ref sig .tc := ⟨.hbm, 129, rfl⟩
abbrev main_v97 : Ref sig .tc := ⟨.hbm, 130, rfl⟩
abbrev main_v98 : Ref sig .tc := ⟨.hbm, 131, rfl⟩
abbrev main_c_27 : Ref sig .tc := ⟨.hbm, 132, rfl⟩
abbrev main_v99 : Ref sig .tc := ⟨.hbm, 133, rfl⟩
abbrev main_v100 : Ref sig .tc := ⟨.hbm, 134, rfl⟩
abbrev main_c_28 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_29 : Ref sig .tc := ⟨.hbm, 139, rfl⟩
abbrev main_v104 : Ref sig .tc := ⟨.hbm, 140, rfl⟩
abbrev main_v105 : Ref sig .tc := ⟨.hbm, 141, rfl⟩
abbrev main_c_30 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_31 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_32 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_33 : Ref sig .tc := ⟨.hbm, 154, rfl⟩
abbrev main_v115 : Ref sig .tc := ⟨.hbm, 155, rfl⟩
abbrev main_v116 : Ref sig .tc := ⟨.hbm, 156, rfl⟩
abbrev main_c_34 : Ref sig .tc := ⟨.hbm, 157, rfl⟩
abbrev main_v117 : Ref sig .tc := ⟨.hbm, 158, rfl⟩
abbrev main_v118 : Ref sig .tc := ⟨.hbm, 159, rfl⟩
abbrev main_cst_35 : Ref sig .tc := ⟨.hbm, 160, rfl⟩
abbrev main_v119 : Ref sig .tc := ⟨.hbm, 161, rfl⟩
abbrev main_v120 : Ref sig .tc := ⟨.hbm, 162, rfl⟩
abbrev main_cst_36 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_37 : Ref sig .tc := ⟨.hbm, 168, rfl⟩
abbrev main_v125 : Ref sig .tc := ⟨.hbm, 169, rfl⟩
abbrev main_v126 : Ref sig .tc := ⟨.hbm, 170, rfl⟩
abbrev main_cst_38 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_39 : Ref sig .tc := ⟨.hbm, 183, rfl⟩
abbrev main_v138 : Ref sig .tc := ⟨.hbm, 184, rfl⟩
abbrev main_v139 : Ref sig .tc := ⟨.hbm, 185, rfl⟩
abbrev main_c_40 : Ref sig .tc := ⟨.hbm, 186, rfl⟩
abbrev main_v140 : Ref sig .tc := ⟨.hbm, 187, rfl⟩
abbrev main_v141 : Ref sig .tc := ⟨.hbm, 188, rfl⟩
abbrev main_c_41 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_c_42 : Ref sig .tc := ⟨.hbm, 193, rfl⟩
abbrev main_v145 : Ref sig .tc := ⟨.hbm, 194, rfl⟩
abbrev main_v146 : Ref sig .tc := ⟨.hbm, 195, rfl⟩
abbrev main_c_43 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_c_44 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_c_45 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_46 : Ref sig .tc := ⟨.hbm, 208, rfl⟩
abbrev main_v156 : Ref sig .tc := ⟨.hbm, 209, rfl⟩
abbrev main_v157 : Ref sig .tc := ⟨.hbm, 210, rfl⟩
abbrev main_c_47 : Ref sig .tc := ⟨.hbm, 211, rfl⟩
abbrev main_v158 : Ref sig .tc := ⟨.hbm, 212, rfl⟩
abbrev main_v159 : Ref sig .tc := ⟨.hbm, 213, rfl⟩
abbrev main_cst_48 : Ref sig .tc := ⟨.hbm, 214, rfl⟩
abbrev main_v160 : Ref sig .tc := ⟨.hbm, 215, rfl⟩
abbrev main_v161 : Ref sig .tc := ⟨.hbm, 216, rfl⟩
abbrev main_cst_49 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_50 : Ref sig .tc := ⟨.hbm, 222, rfl⟩
abbrev main_v166 : Ref sig .tc := ⟨.hbm, 223, rfl⟩
abbrev main_v167 : Ref sig .tc := ⟨.hbm, 224, rfl⟩
abbrev main_cst_51 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩

abbrev nD : Nat := 1
abbrev τ : Topo := Topo.v7x

variable {F : FTy → Type} [FloatOps F]
-- ==== Proof.Bits.lean ====
/-
  The six-bit codes inside three bytes, on bit vectors alone.

  A weight triple is three bytes `b0 b1 b2`; its 24 bits hold four six-bit codes. The kernel takes them four triples
  at a time, on 32-bit words that hold one byte of each triple; `fld i` is code `i` of one triple on single bytes, and
  `byteAt q` is byte `q` of a word. The lemmas say that every step the kernel makes on words is the same step on each
  byte of them.
-/
module

public import Idealize.ShloMosaic.PureOps
public import Idealize.ShloMosaic.Lib.Pointwise

@[expose] public section

noncomputable section

namespace Cert.Codes

open Idealize.ShloMosaic

/-- Byte `q` of a 32-bit word. -/
def byteAt (q : Nat) (w : BitVec 32) : BitVec 8 := w.extractLsb' (8 * q) 8

/-- Code `i` of the triple `b0 b1 b2`: bits `6 i … 6 i + 5` of its 24 bits. -/
def fld (i : Fin 4) (b0 b1 b2 : BitVec 8) : BitVec 8 :=
  match i with
  | 0 => b0 &&& 0x3f#8
  | 1 => ((b1 &&& 0x0f#8) <<< 2) ||| ((b0 >>> 6) &&& 3#8)
  | 2 => ((b1 >>> 4) &&& 0x0f#8) ||| ((b2 &&& 3#8) <<< 4)
  | 3 => (b2 >>> 2) &&& 0x3f#8

/-- Code `i` of four triples at once, on words. -/
def wfld (i : Fin 4) (w0 w1 w2 : BitVec 32) : BitVec 32 :=
  match i with
  | 0 => w0 &&& 1061109567#32
  | 1 => ((w1 &&& 252645135#32) <<< 2) ||| ((w0 >>> 6) &&& 50529027#32)
  | 2 => ((w1 >>> 4) &&& 252645135#32) ||| ((w2 &&& 50529027#32) <<< 4)
  | 3 => (w2 >>> 2) &&& 1061109567#32

/-- A bit of byte `q` is bit `8 q + k` of the word. -/
theorem getLsbD_byteAt (q k : Nat) (hk : k < 8) (w : BitVec 32) : (byteAt q w).getLsbD k = w.getLsbD (8 * q + k) := by
  unfold byteAt; rw [BitVec.getLsbD_extractLsb']; simp [hk]

/-- The mask 0x3F3F3F3F at a bit. -/
theorem mask_3f (k : Nat) (hk : k < 32) : (1061109567#32).getLsbD k = decide (k % 8 < 6) := by
  interval_cases k <;> rfl
/-- The mask 0x0F0F0F0F at a bit. -/
theorem mask_0f (k : Nat) (hk : k < 32) : (252645135#32).getLsbD k = decide (k % 8 < 4) := by
  interval_cases k <;> rfl
/-- The mask 0x03030303 at a bit. -/
theorem mask_03 (k : Nat) (hk : k < 32) : (50529027#32).getLsbD k = decide (k % 8 < 2) := by
  interval_cases k <;> rfl

/-- A code taken on words is the code taken on each byte. -/
theorem byteAt_wfld (i : Fin 4) (w0 w1 w2 : BitVec 32) (q : Nat) (hq : q < 4) :
    byteAt q (wfld i w0 w1 w2) = fld i (byteAt q w0) (byteAt q w1) (byteAt q w2) := by
  apply BitVec.eq_of_getLsbD_eq
  intro k hk
  rw [getLsbD_byteAt q k hk]
  fin_cases i <;> simp only [wfld, fld] <;> interval_cases q <;> interval_cases k <;>
    simp [byteAt]

/-- Every code is below 64. -/
theorem fld_lt (i : Fin 4) (b0 b1 b2 : BitVec 8) : (fld i b0 b1 b2).toNat < 64 := by
  have h : ∀ b : BitVec 8, b.getLsbD 6 = false → b.getLsbD 7 = false → b.toNat < 64 := by decide +kernel
  apply h <;> fin_cases i <;> simp [fld]

/-- Byte `q` of a word as a number. -/
theorem byteAt_toNat (q : Nat) (w : BitVec 32) : (byteAt q w).toNat = w.toNat / 2 ^ (8 * q) % 256 := by
  unfold byteAt; simp [BitVec.extractLsb'_toNat, Nat.shiftRight_eq_div_pow]

/-- Adding `0x60` to every byte of a word whose bytes are below 64 carries nothing across bytes. -/
theorem byteAt_add (c : BitVec 32) (hc : ∀ q < 4, (byteAt q c).toNat < 64) (q : Nat) (hq : q < 4) :
    byteAt q (c + 1616928864#32) = byteAt q c + 0x60#8 := by
  apply BitVec.eq_of_toNat_eq
  have h0 := hc 0 (by decide); have h1 := hc 1 (by decide); have h2 := hc 2 (by decide); have h3 := hc 3 (by decide)
  rw [BitVec.toNat_add, byteAt_toNat, byteAt_toNat, BitVec.toNat_add]
  rw [byteAt_toNat] at h0 h1 h2 h3
  have hw := c.isLt
  simp only [BitVec.toNat_ofNat] at *
  interval_cases q <;> norm_num at * <;> omega

/-- A byte of a bitwise and is the and of the bytes. -/
theorem byteAt_and (a b : BitVec 32) (q : Nat) : byteAt q (a &&& b) = byteAt q a &&& byteAt q b := by
  apply BitVec.eq_of_getLsbD_eq
  intro k hk
  simp [getLsbD_byteAt q k hk]

/-- The code with its exponent in the place `fp8e5m2` keeps it, on one byte. -/
def e5byte (c : BitVec 8) : BitVec 8 := (c + 0x60#8) &&& 0x9f#8

/-- … and on the bytes of a word. -/
theorem byteAt_e5 (i : Fin 4) (w0 w1 w2 : BitVec 32) (q : Nat) (hq : q < 4) :
    byteAt q ((wfld i w0 w1 w2 + 1616928864#32) &&& 2678038431#32)
      = e5byte (fld i (byteAt q w0) (byteAt q w1) (byteAt q w2)) := by
  rw [byteAt_and, byteAt_add _ (fun q hq => by rw [byteAt_wfld i w0 w1 w2 q hq]; exact fld_lt _ _ _ _) q hq,
    byteAt_wfld i w0 w1 w2 q hq]
  unfold e5byte
  congr 1
  interval_cases q <;> rfl

/-- The 24 bits of a triple, as the plain text has them. -/
theorem triple_shift (i : Fin 4) (b0 b1 b2 : BitVec 8) :
    (((b0.setWidth 32 ||| (b1.setWidth 32 <<< 8) ||| (b2.setWidth 32 <<< 16)) >>> (6 * i.val)) &&& 63#32)
      = (fld i b0 b1 b2).setWidth 32 := by
  apply BitVec.eq_of_getLsbD_eq
  intro k hk
  fin_cases i <;> simp only [fld] <;> interval_cases k <;> simp

/-! ### The value of a code -/

/-- What a six-bit code `s eee mm` stands for. -/
def codeVal (c : BitVec 8) : ℝ :=
  (1 - 2 * ((c >>> 5).toNat : ℝ)) *
    (if (c >>> 2) &&& 7#8 = 0 then ((c &&& 3#8).toNat : ℝ) * (1 / 16)
     else (4 + ((c &&& 3#8).toNat : ℝ)) * ((2 : ℝ) ^ ((c >>> 2) &&& 7#8).toNat * (1 / 32)))

/-- The `fp8e5m2` reading of the moved code is the code's value over 4096. -/
theorem e5_value (c : BitVec 8) (hc : c.toNat < 64) :
    Ideal.ieee 5 2 (e5byte c) * ((4096 : ℝ) : EReal) = ((codeVal c : ℝ) : EReal) := by
  obtain ⟨n, hn, rfl⟩ : ∃ n : Nat, n < 64 ∧ c = BitVec.ofNat 8 n := ⟨c.toNat, hc, by simp⟩
  interval_cases n <;>
    simp [Ideal.ieee, e5byte, codeVal, -EReal.coe_mul] <;>
    (rw [← EReal.coe_mul]; norm_num)

end Cert.Codes

end
-- ==== Proof.Spec.lean ====
/-
  The value both programs compute, as one function of the arguments: row `b`, output column `n` is
  `(∑ i g r, x[b, 128 g + 4 r + i] · (code i of triple 32 g + r of row n) · gs[n, g]) · ws[n]`.
-/
module

public import proofs.«01_k».proof.Proof.Bits

@[expose] public section

noncomputable section

namespace Cert.Codes

open Idealize.ShloMosaic

/-- The decoded weight: code `i` of triple `j` of row `n`. -/
def wVal (w : (⟨3, ![7424, 2048, 3]⟩ : Shape).Idx → BitVec 8) (n : Fin 7424) (j : Fin 2048) (i : Fin 4) : EReal :=
  ((codeVal (fld i (w (ix3 n j 0)) (w (ix3 n j 1)) (w (ix3 n j 2))) : ℝ) : EReal)

/-- The result at row `b` and column `n`. -/
def yVal (x : (⟨3, ![96, 1, 8192]⟩ : Shape).Idx → EReal) (w : (⟨3, ![7424, 2048, 3]⟩ : Shape).Idx → BitVec 8)
    (ws : (⟨1, ![7424]⟩ : Shape).Idx → EReal) (gs : (⟨2, ![7424, 64]⟩ : Shape).Idx → EReal) (b : Fin 96) (n : Fin 7424) : EReal :=
  (∑ i : Fin 4, ∑ g : Fin 64, ∑ r : Fin 32,
    x (ix3 b 0 ⟨128 * g.val + 4 * r.val + i.val, by omega⟩) * (wVal w n ⟨32 * g.val + r.val, by omega⟩ i * gs (ix2 n g)))
    * ws (ix1 n)

end Cert.Codes

end
-- ==== Proof.Ref.lean ====
/-
  The reference's result, read at an index: it is `Cert.Codes.yVal`.
-/
module

public import proofs.«01_k».proof.Proof.Spec
public import proofs.«01_k».proof.Proof.Gen.ReferenceIdeal.Run
public import Idealize.ShloMosaic.Lib.Pointwise

@[expose] public section

noncomputable section

namespace Cert.Codes

open Idealize.ShloMosaic

/-- The reference's decoding of a code held in a 32-bit word, operation by operation. -/
def decS (c : BitVec 32) : EReal :=
  (1 - Ideal.ofBits FTy.f32 1073741824#32 * (FloatOps.uitofp FTy.f32 (IntOp.shrui ArithUnit.host c 5#32) : Ideal .f32)) *
    Scalar.select (IntOp.cmpi CmpIPredicate.eq (IntOp.andi (IntOp.shrui ArithUnit.host c 2#32) 7#32) 0#32)
      ((FloatOps.uitofp FTy.f32 (IntOp.andi c 3#32) : Ideal .f32) * Ideal.ofBits FTy.f32 1031798784#32)
      ((Ideal.ofBits FTy.f32 1082130432#32 + (FloatOps.uitofp FTy.f32 (IntOp.andi c 3#32) : Ideal .f32)) *
        ((FloatOps.sitofp FTy.f32 (IntOp.shli ArithUnit.host (1#32) (IntOp.andi (IntOp.shrui ArithUnit.host c 2#32) 7#32)) : Ideal .f32) *
          Ideal.ofBits FTy.f32 1023410176#32))

/-- It is the code's value. -/
theorem decS_eq (c : BitVec 8) (hc : c.toNat < 64) : decS (c.setWidth 32) = ((codeVal c : ℝ) : EReal) := by
  have h2 : Ideal.ofBits FTy.f32 1073741824#32 = ((2 : ℝ) : EReal) := by
    simp [Ideal.ofBits, Ideal.ieee, -EReal.coe_mul]; norm_num
  have h16 : Ideal.ofBits FTy.f32 1031798784#32 = ((1 / 16 : ℝ) : EReal) := by
    simp [Ideal.ofBits, Ideal.ieee, -EReal.coe_mul]; norm_num
  have h4 : Ideal.ofBits FTy.f32 1082130432#32 = ((4 : ℝ) : EReal) := by
    simp [Ideal.ofBits, Ideal.ieee, -EReal.coe_mul]; norm_num
  have h32 : Ideal.ofBits FTy.f32 1023410176#32 = ((1 / 32 : ℝ) : EReal) := by
    simp [Ideal.ofBits, Ideal.ieee, -EReal.coe_mul]; norm_num
  have hu : ∀ b : BitVec 32, (FloatOps.uitofp FTy.f32 b : Ideal .f32) = ((b.toNat : ℝ) : EReal) := fun b => by
    rfl
  have hs : ∀ b : BitVec 32, (FloatOps.sitofp FTy.f32 b : Ideal .f32) = ((b.toInt : ℝ) : EReal) := fun b => by
    rfl
  have h1 : (1 : EReal) = ((1 : ℝ) : EReal) := by norm_num
  unfold decS
  rw [h2, h16, h4, h32, hu, hu, hs, h1]
  simp only [← EReal.coe_mul, ← EReal.coe_add, ← EReal.coe_sub]
  obtain ⟨n, hn, rfl⟩ : ∃ n : Nat, n < 64 ∧ c = BitVec.ofNat 8 n := ⟨c.toNat, hc, by simp⟩
  have hsel : ∀ (p : BitVec 1) (a b : ℝ), Scalar.select p (a : EReal) (b : EReal) = ((if p = 1#1 then a else b : ℝ) : EReal) := by
    intro p a b; unfold Scalar.select; by_cases h : p = 1#1 <;> simp [h]
  rw [hsel, ← EReal.coe_mul]
  congr 1
  interval_cases n <;>
    simp [IntOp.shrui, IntOp.shli, IntOp.andi, IntOp.cmpi, codeVal] <;> norm_num

end Cert.Codes

namespace Cert.ReferenceIdeal.Value

open Cert.ReferenceIdeal Cert.ReferenceIdeal.Gen Idealize.ShloMosaic Idealize.ShloMosaic.TcCoe Idealize.SL.Sem
open Cert.Codes StableHlo

variable (V0 : Valuation τ sig (Elt Ideal))

/-- The arguments, each as a function of its index. -/
abbrev xOf : S96x1x8192.Idx → EReal := V0 (Proc.devRef .tc main_arg0)
/-- The packed weights. -/
abbrev wOf : S7424x2048x3.Idx → BitVec 8 := V0 (Proc.devRef .tc main_arg1)
/-- The column scales. -/
abbrev sOf : S7424.Idx → EReal := V0 (Proc.devRef .tc main_arg2)
/-- The group scales. -/
abbrev gOf : S7424x64.Idx → EReal := V0 (Proc.devRef .tc main_arg3)

/-- The triple's 24 bits. -/
theorem v12_apply (n : Fin 7424) (j : Fin 2048) :
    res_main_v12 V0 (ix2 n j) = ((wOf V0 (ix3 n j 0)).setWidth 32 ||| ((wOf V0 (ix3 n j 1)).setWidth 32 <<< 8) ||| ((wOf V0 (ix3 n j 2)).setWidth 32 <<< 16)) := by
  unfold res_main_v12 res_main_v0
  pointwise
  rfl

/-- The activations by group, triple and code. -/
theorem v13_apply (b : Fin 96) (g : Fin 64) (r : Fin 32) (i : Fin 4) :
    res_main_v13 V0 (ix5 b 0 g r i) = xOf V0 (ix3 b 0 ⟨128 * g.val + 4 * r.val + i.val, by omega⟩) := by
  unfold res_main_v13
  pointwise
  congr 3
  omega

/-- The group scales in bf16. -/
theorem v15_apply (n : Fin 7424) (g : Fin 64)  :
    res_main_v15 V0 (ix3 n g 0) = gOf V0 (ix2 n g) := by
  unfold res_main_v15
  pointwise

/-- Code `i` of triple `j` of row `n`. -/
abbrev cOf (i : Fin 4) (n : Fin 7424) (j : Fin 2048) : BitVec 8 :=
  fld i (wOf V0 (ix3 n j 0)) (wOf V0 (ix3 n j 1)) (wOf V0 (ix3 n j 2))

/-- Code 0 of a triple, as a word. -/
theorem v19_apply (n : Fin 7424) (j : Fin 2048) :
    res_main_v19 V0 (ix2 n j) = (cOf V0 0 n j).setWidth 32 := by
  unfold res_main_v19
  pointwise
  rw [v12_apply]
  exact triple_shift 0 _ _ _
/-- Code 0's exponent. -/
theorem v27_apply (n : Fin 7424) (j : Fin 2048) :
    res_main_v27 V0 (ix2 n j) = IntOp.andi (IntOp.shrui ArithUnit.host ((cOf V0 0 n j).setWidth 32) 2#32) 7#32 := by
  unfold res_main_v27
  show andi _ _ (ix2 n j) = _
  pointwise
  rw [v19_apply]
/-- Code 0's mantissa. -/
theorem v30_apply (n : Fin 7424) (j : Fin 2048) :
    res_main_v30 V0 (ix2 n j) = (FloatOps.uitofp FTy.f32 (IntOp.andi ((cOf V0 0 n j).setWidth 32) 3#32) : Ideal .f32) := by
  unfold res_main_v30
  pointwise
  rw [v19_apply]

/-- Code 1 of a triple, as a word. -/
theorem v59_apply (n : Fin 7424) (j : Fin 2048) :
    res_main_v59 V0 (ix2 n j) = (cOf V0 1 n j).setWidth 32 := by
  unfold res_main_v59
  pointwise
  rw [v12_apply]
  exact triple_shift 1 _ _ _
/-- Code 1's exponent. -/
theorem v67_apply (n : Fin 7424) (j : Fin 2048) :
    res_main_v67 V0 (ix2 n j) = IntOp.andi (IntOp.shrui ArithUnit.host ((cOf V0 1 n j).setWidth 32) 2#32) 7#32 := by
  unfold res_main_v67
  show andi _ _ (ix2 n j) = _
  pointwise
  rw [v59_apply]
/-- Code 1's mantissa. -/
theorem v70_apply (n : Fin 7424) (j : Fin 2048) :
    res_main_v70 V0 (ix2 n j) = (FloatOps.uitofp FTy.f32 (IntOp.andi ((cOf V0 1 n j).setWidth 32) 3#32) : Ideal .f32) := by
  unfold res_main_v70
  pointwise
  rw [v59_apply]

/-- Code 2 of a triple, as a word. -/
theorem v100_apply (n : Fin 7424) (j : Fin 2048) :
    res_main_v100 V0 (ix2 n j) = (cOf V0 2 n j).setWidth 32 := by
  unfold res_main_v100
  pointwise
  rw [v12_apply]
  exact triple_shift 2 _ _ _
/-- Code 2's exponent. -/
theorem v108_apply (n : Fin 7424) (j : Fin 2048) :
    res_main_v108 V0 (ix2 n j) = IntOp.andi (IntOp.shrui ArithUnit.host ((cOf V0 2 n j).setWidth 32) 2#32) 7#32 := by
  unfold res_main_v108
  show andi _ _ (ix2 n j) = _
  pointwise
  rw [v100_apply]
/-- Code 2's mantissa. -/
theorem v111_apply (n : Fin 7424) (j : Fin 2048) :
    res_main_v111 V0 (ix2 n j) = (FloatOps.uitofp FTy.f32 (IntOp.andi ((cOf V0 2 n j).setWidth 32) 3#32) : Ideal .f32) := by
  unfold res_main_v111
  pointwise
  rw [v100_apply]

/-- Code 3 of a triple, as a word. -/
theorem v141_apply (n : Fin 7424) (j : Fin 2048) :
    res_main_v141 V0 (ix2 n j) = (cOf V0 3 n j).setWidth 32 := by
  unfold res_main_v141
  pointwise
  rw [v12_apply]
  exact triple_shift 3 _ _ _
/-- Code 3's exponent. -/
theorem v149_apply (n : Fin 7424) (j : Fin 2048) :
    res_main_v149 V0 (ix2 n j) = IntOp.andi (IntOp.shrui ArithUnit.host ((cOf V0 3 n j).setWidth 32) 2#32) 7#32 := by
  unfold res_main_v149
  show andi _ _ (ix2 n j) = _
  pointwise
  rw [v141_apply]
/-- Code 3's mantissa. -/
theorem v152_apply (n : Fin 7424) (j : Fin 2048) :
    res_main_v152 V0 (ix2 n j) = (FloatOps.uitofp FTy.f32 (IntOp.andi ((cOf V0 3 n j).setWidth 32) 3#32) : Ideal .f32) := by
  unfold res_main_v152
  pointwise
  rw [v141_apply]

/-- The decoded weight is the code's value. -/
theorem dec_cOf (i : Fin 4) (n : Fin 7424) (j : Fin 2048) : decS ((cOf V0 i n j).setWidth 32) = wVal (wOf V0) n j i :=
  decS_eq _ (fld_lt _ _ _ _)

/-- The four contractions, added. -/
theorem v178_apply (b : Fin 96) (n : Fin 7424) :
    res_main_v178 V0 (ix3 b 0 n) = ∑ i : Fin 4, ∑ g : Fin 64, ∑ r : Fin 32,
      xOf V0 (ix3 b 0 ⟨128 * g.val + 4 * r.val + i.val, by omega⟩) *
        (wVal (wOf V0) n ⟨32 * g.val + r.val, by omega⟩ i * gOf V0 (ix2 n g)) := by
  have hj : ∀ (g : Fin 64) (r : Fin 32) (h : g.val * 32 + r.val < 2048),
      (⟨g.val * 32 + r.val, h⟩ : Fin 2048) = ⟨32 * g.val + r.val, by omega⟩ := fun g r h => Fin.ext (by simp; omega)
  unfold res_main_v178
  pointwise
  rw [Fin.sum_univ_four]
  simp only [v13_apply, v15_apply, v19_apply, v27_apply, v30_apply, v59_apply, v67_apply, v70_apply, v100_apply, v108_apply,
    v111_apply, v141_apply, v149_apply, v152_apply, hj, ← dec_cOf]
  rfl

/-- THE REFERENCE'S RESULT at an index. -/
theorem ref_apply (b : Fin 96) (n : Fin 7424) :
    (shapeCast S96x7424 (truncf .bf16 (mulf (res_main_v178 V0) (broadcastInDim S96x1x7424 ![0, 1, 2] bcast_S1x1x7424_S96x1x7424_0_1_2 (broadcastInDim S1x1x7424 ![2] bcast_S7424_S1x1x7424_2 (V0 (Proc.devRef .tc main_arg2))))) bitsLt_bf16_f32) shapeCasts_S96x1x7424_S96x7424 : FVec Ideal S96x7424 .bf16) (ix2 b n)
      = yVal (xOf V0) (wOf V0) (sOf V0) (gOf V0) b n := by
  pointwise
  rw [v178_apply]
  rfl

end Cert.ReferenceIdeal.Value

end
-- ==== Proof.Tile.lean ====
/-
  The kernel's weight tile, as functions of what the kernel loads, and each of them read at an index.

  The body handles 256 rows of the transposed weights at a time (two groups of 128), each group in two halves of 128
  columns. Half a group is the concatenation of four quarters, quarter `i` holding code `i` of the group's 32 triples;
  every quarter is decoded as `fp8e5m2` bytes and multiplied by the group's scale.
-/
module

public import proofs.«01_k».proof.Proof.Spec
public import proofs.«01_k».proof.Proof.Gen.KernelIdeal
public import Idealize.ShloMosaic.Lib.Pointwise
public import Idealize.ShloMosaic.Lib.Pipeline.FrameBody
public import Idealize.ShloMosaic.Lib.BitcastFour

@[expose] public section

noncomputable section

namespace Cert.KernelIdeal.Tile

open Cert.KernelIdeal Cert.KernelIdeal.Gen Cert.Codes
open Idealize.ShloMosaic Idealize.SL.Sem

variable {F : FTy → Type} [FloatOps F]

/-- A load of 32 rows and 128 columns lies inside the transposed weights. -/
theorem inbT (p : Fin 3) (g : Fin 64) (h : Fin 2) :
    ∀ a, (![p.val, 32 * g.val, 128 * h.val] : Fin 3 → ℕ) a + S1x32x128.size a ≤ S3x2048x256.size a := fun a => by
  have := p.isLt; have := g.isLt; have := h.isLt
  match a with
  | ⟨0, _⟩ => show p.val + 1 ≤ 3; omega
  | ⟨1, _⟩ => show 32 * g.val + 32 ≤ 2048; omega
  | ⟨2, _⟩ => show 128 * h.val + 128 ≤ 256; omega

/-- A load of one row of packed scales lies inside their buffer. -/
theorem inbG (g : Fin 64) (h : Fin 2) :
    ∀ a, (![g.val, 0, 128 * h.val] : Fin 3 → ℕ) a + S1x2x128.size a ≤ S64x2x256.size a := fun a => by
  have := g.isLt; have := h.isLt
  match a with
  | ⟨0, _⟩ => show g.val + 1 ≤ 64; omega
  | ⟨1, _⟩ => show 0 + 2 ≤ 2; omega
  | ⟨2, _⟩ => show 128 * h.val + 128 ≤ 256; omega

/-- A load of 256 columns lies inside the activations. -/
theorem inbX (k : Fin 32) : ∀ a, (![0, 256 * k.val] : Fin 2 → ℕ) a + S96x256.size a ≤ S96x8192.size a := fun a => by
  have := k.isLt
  match a with
  | ⟨0, _⟩ => show 0 + 96 ≤ 96; omega
  | ⟨1, _⟩ => show 256 * k.val + 256 ≤ 8192; omega

/-- Thirty-two rows of bytes as eight rows of words: word row `s` holds byte rows `4 s … 4 s + 3`. -/
def word (v : Vec F S1x32x128 .i8) : IVec S8x128 32 :=
  bitcast S8x128 32 (shapeCast S32x128 v shapeCasts_S1x32x128_S32x128) bitcasts_S32x128_w8_S8x128_w32

/-- Code `i` of every triple, on words. -/
def code (i : Fin 4) (b0 b1 b2 : IVec S8x128 32) : IVec S8x128 32 :=
  match i with
  | 0 => andi b0 (broadcast S8x128 1061109567#32)
  | 1 => ori (shli (andi b1 (broadcast S8x128 252645135#32)) (broadcast S8x128 2#32))
          (andi (shrui b0 (broadcast S8x128 6#32)) (broadcast S8x128 50529027#32))
  | 2 => ori (andi (shrui b1 (broadcast S8x128 4#32)) (broadcast S8x128 252645135#32))
          (shli (andi b2 (broadcast S8x128 50529027#32)) (broadcast S8x128 4#32))
  | 3 => andi (shrui b2 (broadcast S8x128 2#32)) (broadcast S8x128 1061109567#32)

/-- The codes' `fp8e5m2` bytes. -/
def e5 (c : IVec S8x128 32) : IVec S32x128 8 :=
  bitcast S32x128 8 (andi (addi c (broadcast S8x128 1616928864#32)) (broadcast S8x128 2678038431#32)) bitcasts_S8x128_w32_S32x128_w8

/-- One row eight times. -/
def rows8 (v : FVec F S1x128 .bf16) : FVec F S8x128 .bf16 :=
  concatenate S8x128 0 [⟨S1x128, v⟩, ⟨S1x128, v⟩, ⟨S1x128, v⟩, ⟨S1x128, v⟩, ⟨S1x128, v⟩, ⟨S1x128, v⟩, ⟨S1x128, v⟩, ⟨S1x128, v⟩]
    concatenates_S1x128_S1x128_S1x128_S1x128_S1x128_S1x128_S1x128_S1x128_S8x128_d0

/-- The group's scale on the quarter's thirty-two rows, from the pair of rows that is loaded. -/
def scale (raw : Vec F S1x2x128 .bf16) : FVec F S32x128 .bf16 :=
  let p := interleaveRows S16x128
    (rows8 (F := F) (shapeCast S1x128 (rowsOfParity 0 S1x1x128 raw bitcasts_S1x2x128_w16_S1x1x128_w32) shapeCasts_S1x1x128_S1x128))
    (rows8 (F := F) (shapeCast S1x128 (rowsOfParity 1 S1x1x128 raw bitcasts_S1x2x128_w16_S1x1x128_w32) shapeCasts_S1x1x128_S1x128))
    bitcasts_S16x128_w16_S8x128_w32
  concatenate S32x128 0 [⟨S16x128, p⟩, ⟨S16x128, p⟩] concatenates_S16x128_S16x128_S32x128_d0

/-- Quarter `i`: the decoded codes times the scale. -/
def quarter (i : Fin 4) (v0 v1 v2 : Vec F S1x32x128 .i8) (raw : Vec F S1x2x128 .bf16) : FVec F S32x128 .bf16 :=
  mulf (extf .bf16 (bitcastToFloat .fp8e5m2 (e5 (code i (word v0) (word v1) (word v2)))) bitsLt_fp8e5m2_bf16) (scale raw)

/-- Half a group. -/
def half (v0 v1 v2 : Vec F S1x32x128 .i8) (raw : Vec F S1x2x128 .bf16) : FVec F S128x128 .bf16 :=
  concatenate S128x128 0 [⟨S32x128, quarter 0 v0 v1 v2 raw⟩, ⟨S32x128, quarter 1 v0 v1 v2 raw⟩, ⟨S32x128, quarter 2 v0 v1 v2 raw⟩,
    ⟨S32x128, quarter 3 v0 v1 v2 raw⟩] concatenates_S32x128_S32x128_S32x128_S32x128_S128x128_d0

/-- Plane `p` of the transposed bytes: the thirty-two rows of group `g`, column half `h`. -/
def ldT (T : Vec F S3x2048x256 .i8) (p : Fin 3) (g : Fin 64) (h : Fin 2) : Vec F S1x32x128 .i8 :=
  View.ld T (Rect.unit (s := S3x2048x256) ![p.val, 32 * g.val, 128 * h.val] S1x32x128.size (inbT p g h))

/-- The pair of scale rows of group `g`, column half `h`. -/
def ldG (G : Vec F S64x2x256 .bf16) (g : Fin 64) (h : Fin 2) : Vec F S1x2x128 .bf16 :=
  View.ld G (Rect.unit (s := S64x2x256) ![g.val, 0, 128 * h.val] S1x2x128.size (inbG g h))

/-- The columns of tile `k` of the permuted activations. -/
def ldX (X : Vec F S96x8192 .bf16) (k : Fin 32) : Vec F S96x256 .bf16 :=
  View.ld X (Rect.unit (s := S96x8192) ![0, 256 * k.val] S96x256.size (inbX k))

/-- Group `g` of the decoded weights. -/
def group (T : Vec F S3x2048x256 .i8) (G : Vec F S64x2x256 .bf16) (g : Fin 64) : FVec F S128x256 .bf16 :=
  concatenate S128x256 1 [⟨S128x128, half (ldT T 0 g 0) (ldT T 1 g 0) (ldT T 2 g 0) (ldG G g 0)⟩,
    ⟨S128x128, half (ldT T 0 g 1) (ldT T 1 g 1) (ldT T 2 g 1) (ldG G g 1)⟩] concatenates_S128x128_S128x128_S128x256_d1

/-- Tile `k`'s product. -/
def part (X : Vec F S96x8192 .bf16) (T : Vec F S3x2048x256 .i8) (G : Vec F S64x2x256 .bf16) (k : Fin 32) : FVec F S96x256 .f32 :=
  matmul dot_S96x256_S256x256_S96x256_1_0_0_1_n_n none (ldX X k)
    (concatenate S256x256 0 [⟨S128x256, group T G ⟨2 * k.val, by omega⟩⟩, ⟨S128x256, group T G ⟨2 * k.val + 1, by omega⟩⟩]
      concatenates_S128x256_S128x256_S256x256_d0)
    (constant S96x256 .f32 0x00000000#32)

/-- The running sum of the products after tile `k`. -/
def acc (X : Vec F S96x8192 .bf16) (T : Vec F S3x2048x256 .i8) (G : Vec F S64x2x256 .bf16) : (k : ℕ) → k < 32 → FVec F S96x256 .f32
  | 0, h => part X T G ⟨0, h⟩
  | k + 1, h => addf (acc X T G k (by omega)) (part X T G ⟨k + 1, h⟩)

/-- The output block: the sum of the products, scaled by the columns' scale. -/
def outOf (X : Vec F S96x8192 .bf16) (T : Vec F S3x2048x256 .i8) (G : Vec F S64x2x256 .bf16) (ws : Vec F S1x256 .f32) : FVec F S96x256 .bf16 :=
  truncf .bf16 (mulf (acc X T G 31 (by omega)) (broadcastTo S96x256 (shapeCast S1x256 ws shapeCasts_S1x256_S1x256) broadcasts_S1x256_S96x256))
    bitsLt_bf16_f32

/-- The scales times `4096`, each row twice. -/
def gpOf (gs : Vec F S64x256 .f32) : Vec F S64x2x256 .bf16 :=
  let p : FVec F S64x256 .bf16 := truncf .bf16 (mulf (extf .f32 (truncf .bf16 (shapeCast S64x256 gs shapeCasts_S64x256_S64x256) bitsLt_bf16_f32) bitsLt_bf16_f32)
    (broadcast S64x256 (Scalar.ofBits .f32 0x45800000#32))) bitsLt_bf16_f32
  interleaveRows S64x2x256 (shapeCast S64x1x256 p shapeCasts_S64x256_S64x1x256) (shapeCast S64x1x256 p shapeCasts_S64x256_S64x1x256)
    bitcasts_S64x2x256_w16_S64x1x256_w32

/-- Byte `q` of the word made of four rows is row `4 s + q`. -/
theorem word_byte (v : Vec F S1x32x128 .i8) (s : Fin 8) (q : Fin 4) (n : Fin 128) :
    byteAt q (word v (ix2 s n)) = v (ix3 0 ⟨4 * s.val + q.val, by omega⟩ n) := by
  apply BitVec.eq_of_getLsbD_eq
  intro k hk
  rw [getLsbD_byteAt _ k hk]
  unfold word
  refine (bitcast_8_32_getLsbD_ix2 _ _ s n (8 * q.val + k) (by omega) ⟨4 * s.val + q.val, by omega⟩ (by dsimp only; omega)).trans ?_
  rw [show (8 * q.val + k) % 8 = k by omega]
  refine congrArg (fun b : BitVec 8 => b.getLsbD k) ?_
  pointwise

/-- The codes, taken on words, at an index. -/
theorem code_apply (i : Fin 4) (b0 b1 b2 : IVec S8x128 32) (j : S8x128.Idx) : code i b0 b1 b2 j = wfld i (b0 j) (b1 j) (b2 j) := by
  fin_cases i <;> rfl

/-- A row of bytes read back from words is byte `p` of its word. -/
theorem e5_src (j : S32x128.Idx) (s : Fin 8) (n : Fin 128) (hn : (j 1).val = n.val) (p : Nat) (e : p = s.val)
    (hp : ∀ a : Fin S8x128.rank, a.val + 2 = S8x128.rank → p < S8x128.size a) :
    (bitcasts_S8x128_w32_S32x128_w8).srcIdx j p hp = ix2 s n := by
  funext a
  match a with
  | ⟨0, _⟩ => exact Fin.ext (((bitcasts_S8x128_w32_S32x128_w8).srcIdx_row _ _ _ ⟨0, Nat.zero_lt_two⟩ rfl).trans e)
  | ⟨1, _⟩ => exact Fin.ext (((bitcasts_S8x128_w32_S32x128_w8).srcIdx_other _ _ _ ⟨1, Nat.one_lt_two⟩ (by show ¬ 1 + 2 = 2; omega)).trans hn)

/-- The e5m2 bytes at an index, from the code's word. -/
theorem e5_apply (c : IVec S8x128 32) (s : Fin 8) (q : Fin 4) (n : Fin 128) :
    e5 c (ix2 ⟨4 * s.val + q.val, by omega⟩ n) = byteAt q ((c (ix2 s n) + 1616928864#32) &&& 2678038431#32) := by
  apply BitVec.eq_of_getLsbD_eq
  intro k hk
  rw [getLsbD_byteAt _ k hk]
  unfold e5
  refine (bitcast_getLsbD _ bitcasts_S8x128_w32_S32x128_w8 _ k hk (by decide)).trans ?_
  have hrow : S32x128.row (ix2 ⟨4 * s.val + q.val, by omega⟩ n) = 4 * s.val + q.val := rfl
  rw [e5_src _ s n rfl _ (by rw [hrow]; omega), hrow, show ((4 * s.val + q.val) * 8 + k) % 32 = 8 * q.val + k by omega]
  rfl

/-- Eight copies of a row, at an index. -/
theorem rows8_apply (v : FVec F S1x128 .bf16) (j : Fin 8) (n : Fin 128) : rows8 v (ix2 j n) = v (ix2 0 n) := by
  unfold rows8
  fin_cases j <;> pointwise

/-- A row of a pair, repeated eight times, at an index. -/
theorem row_apply (p : Fin 2) (raw : Vec F S1x2x128 .bf16) (j : Fin 8) (n : Fin 128) :
    rows8 (F := F) (shapeCast S1x128 (rowsOfParity p S1x1x128 raw bitcasts_S1x2x128_w16_S1x1x128_w32) shapeCasts_S1x1x128_S1x128) (ix2 j n)
      = raw (ix3 0 p n) := by
  rw [rows8_apply]
  fin_cases p <;> pointwise

/-- The scale tile at an index: the two rows of the pair alternate. -/
theorem scale_apply (raw : Vec F S1x2x128 .bf16) (r : Fin 32) (n : Fin 128) :
    scale raw (ix2 r n) = raw (ix3 0 ⟨r.val % 2, by omega⟩ n) := by
  unfold scale
  pointwise
  simp only [row_apply]
  have h01 : ∀ p : Fin 2, ∀ k : Nat, k % 2 = p.val → ∀ h : k % 2 < 2, raw (ix3 0 p n) = raw (ix3 0 ⟨k % 2, h⟩ n) :=
    fun p k e h => congrArg (fun p => raw (ix3 0 p n)) (Fin.ext e.symm)
  split_ifs with h1 h2 h2
  · exact h01 0 _ h2 _
  · exact h01 1 _ (by show _ = 1; omega) _
  · exact h01 0 _ (by show _ = 0; omega) _
  · exact h01 1 _ (by show _ = 1; omega) _

/-- A product of tiles at an index. -/
theorem mulf_apply (a b : FVec Ideal S32x128 .bf16) (j : S32x128.Idx) : mulf a b j = a j * b j := rfl

/-- Bytes read as e5m2 numbers, at an index. -/
theorem e5m2_apply (c : IVec S32x128 8) (h : FTy.bits .fp8e5m2 < FTy.bits .bf16) (j : S32x128.Idx) :
    extf .bf16 (bitcastToFloat (F := Ideal) .fp8e5m2 c) h j = Ideal.ieee 5 2 (c j) := rfl

/-- A quarter at a row and a column, over the extended reals. -/
theorem quarter_apply (i : Fin 4) (v0 v1 v2 : Vec Ideal S1x32x128 .i8) (raw : Vec Ideal S1x2x128 .bf16) (r : Fin 32) (n : Fin 128) :
    quarter i v0 v1 v2 raw (ix2 r n)
      = Ideal.ieee 5 2 (e5byte (fld i (v0 (ix3 0 r n)) (v1 (ix3 0 r n)) (v2 (ix3 0 r n)))) * raw (ix3 0 ⟨r.val % 2, by omega⟩ n) := by
  have hc : e5 (code i (word v0) (word v1) (word v2)) (ix2 r n) = e5byte (fld i (v0 (ix3 0 r n)) (v1 (ix3 0 r n)) (v2 (ix3 0 r n))) := by
    obtain ⟨s, q, hsq⟩ : ∃ (s : Fin 8) (q : Fin 4), r = ⟨4 * s.val + q.val, by omega⟩ :=
      ⟨⟨r.val / 4, by omega⟩, ⟨r.val % 4, by omega⟩, Fin.ext (by dsimp only; omega)⟩
    subst hsq
    rw [e5_apply, code_apply, byteAt_e5 _ _ _ _ _ q.isLt, word_byte, word_byte, word_byte]
  unfold quarter
  rw [mulf_apply, e5m2_apply, hc, scale_apply]

/-- Half a group at a row and a column: row `32 i + r` is quarter `i`'s row `r`. -/
theorem half_apply (i : Fin 4) (v0 v1 v2 : Vec F S1x32x128 .i8) (raw : Vec F S1x2x128 .bf16) (r : Fin 32) (n : Fin 128) :
    half v0 v1 v2 raw (ix2 ⟨32 * i.val + r.val, by omega⟩ n) = quarter i v0 v1 v2 raw (ix2 r n) := by
  have hr := r.isLt
  have hq : ∀ (i : Fin 4) (k : Nat) (h : k < 32), k = r.val → quarter i v0 v1 v2 raw (ix2 ⟨k, h⟩ n) = quarter i v0 v1 v2 raw (ix2 r n) :=
    fun i k h e => congrArg (fun r => quarter i v0 v1 v2 raw (ix2 r n)) (Fin.ext e)
  unfold half
  fin_cases i
  · pointwise
  · pointwise
  · pointwise
    rw [dif_neg (by omega), dif_neg (by omega), dif_pos (by omega)]
    exact hq 2 _ _ (by omega)
  · pointwise
    rw [dif_neg (by omega), dif_neg (by omega), dif_neg (by omega)]
    exact hq 3 _ _ (by omega)

end Cert.KernelIdeal.Tile

end
-- ==== Proof.Dot.lean ====
/-
  The output block at an index, over the extended reals: the sum over codes, groups and triples.
-/
module

public import proofs.«01_k».proof.Proof.Tile

@[expose] public section

noncomputable section

namespace Cert.KernelIdeal.Tile

open Cert.KernelIdeal Cert.KernelIdeal.Gen Cert.Codes
open Idealize.ShloMosaic Idealize.SL.Sem

/-- A load of the transposed weights at an index. -/
theorem ldT_apply (T : Vec Ideal S3x2048x256 .i8) (p : Fin 3) (g : Fin 64) (h : Fin 2) (r : Fin 32) (n : Fin 128) :
    ldT T p g h (ix3 0 r n) = T (ix3 p ⟨32 * g.val + r.val, by omega⟩ ⟨128 * h.val + n.val, by omega⟩) := by
  unfold ldT
  refine congrArg T ?_
  funext c
  match c with
  | ⟨0, _⟩ => exact Fin.ext (by show p.val + 1 * 0 = p.val; omega)
  | ⟨1, _⟩ => exact Fin.ext (by show 32 * g.val + 1 * r.val = 32 * g.val + r.val; omega)
  | ⟨2, _⟩ => exact Fin.ext (by show 128 * h.val + 1 * n.val = 128 * h.val + n.val; omega)

/-- A load of the packed scales at an index. -/
theorem ldG_apply (G : Vec Ideal S64x2x256 .bf16) (g : Fin 64) (h : Fin 2) (p : Fin 2) (n : Fin 128) :
    ldG G g h (ix3 0 p n) = G (ix3 g p ⟨128 * h.val + n.val, by omega⟩) := by
  unfold ldG
  refine congrArg G ?_
  funext c
  match c with
  | ⟨0, _⟩ => exact Fin.ext (by show g.val + 1 * 0 = g.val; omega)
  | ⟨1, _⟩ => exact Fin.ext (by show 0 + 1 * p.val = p.val; omega)
  | ⟨2, _⟩ => exact Fin.ext (by show 128 * h.val + 1 * n.val = 128 * h.val + n.val; omega)

/-- A load of the activations at an index. -/
theorem ldX_apply (X : Vec Ideal S96x8192 .bf16) (k : Fin 32) (b : Fin 96) (q : Fin 256) :
    ldX X k (ix2 b q) = X (ix2 b ⟨256 * k.val + q.val, by omega⟩) := by
  unfold ldX
  refine congrArg X ?_
  funext c
  match c with
  | ⟨0, _⟩ => exact Fin.ext (by show 0 + 1 * b.val = b.val; omega)
  | ⟨1, _⟩ => exact Fin.ext (by show 256 * k.val + 1 * q.val = 256 * k.val + q.val; omega)

/-- A decoded weight: code `i` of triple `32 g + r`, column `n`, times the group's scale. -/
def wAt (T : Vec Ideal S3x2048x256 .i8) (G : Vec Ideal S64x2x256 .bf16) (g : Fin 64) (i : Fin 4) (r : Fin 32) (n : Fin 256) : EReal :=
  Ideal.ieee 5 2 (e5byte (fld i (T (ix3 0 ⟨32 * g.val + r.val, by omega⟩ n)) (T (ix3 1 ⟨32 * g.val + r.val, by omega⟩ n))
    (T (ix3 2 ⟨32 * g.val + r.val, by omega⟩ n)))) * G (ix3 g ⟨r.val % 2, by omega⟩ n)

/-- The decoded half group at an index. -/
theorem half_group (T : Vec Ideal S3x2048x256 .i8) (G : Vec Ideal S64x2x256 .bf16) (g : Fin 64) (h : Fin 2) (i : Fin 4) (r : Fin 32) (n : Fin 128) :
    half (ldT T 0 g h) (ldT T 1 g h) (ldT T 2 g h) (ldG G g h) (ix2 ⟨32 * i.val + r.val, by omega⟩ n)
      = wAt T G g i r ⟨128 * h.val + n.val, by omega⟩ := by
  rw [half_apply, quarter_apply, ldT_apply, ldT_apply, ldT_apply, ldG_apply]
  rfl

/-- Two halves side by side, at an index. -/
theorem group_split {α : Type} (a b : S128x128.Idx → α) (ρ : Fin 128) (n : Fin 256) :
    concatenate S128x256 1 [⟨S128x128, a⟩, ⟨S128x128, b⟩] concatenates_S128x128_S128x128_S128x256_d1 (ix2 ρ n)
      = if h : n.val < 128 then a (ix2 ρ ⟨n.val, h⟩) else b (ix2 ρ ⟨n.val - 128, by omega⟩) := by
  pointwise

/-- A decoded group at an index: row `32 i + r` holds code `i` of triple `r`. -/
theorem group_apply (T : Vec Ideal S3x2048x256 .i8) (G : Vec Ideal S64x2x256 .bf16) (g : Fin 64) (i : Fin 4) (r : Fin 32) (n : Fin 256) :
    group T G g (ix2 ⟨32 * i.val + r.val, by omega⟩ n) = wAt T G g i r n := by
  unfold group
  rw [group_split]
  split_ifs with h
  · rw [half_group]
    exact congrArg (wAt T G g i r) (Fin.ext (by show 128 * 0 + n.val = n.val; omega))
  · rw [half_group]
    exact congrArg (wAt T G g i r) (Fin.ext (by show 128 * 1 + (n.val - 128) = n.val; omega))

/-- Two groups one above the other, at an index. -/
theorem tile_split {α : Type} (a b : S128x256.Idx → α) (q : Fin 256) (n : Fin 256) :
    concatenate S256x256 0 [⟨S128x256, a⟩, ⟨S128x256, b⟩] concatenates_S128x256_S128x256_S256x256_d0 (ix2 q n)
      = if h : q.val < 128 then a (ix2 ⟨q.val, h⟩ n) else b (ix2 ⟨q.val - 128, by omega⟩ n) := by
  pointwise

/-- Row `K` of the decoded weights, column `n`. -/
def wRow (T : Vec Ideal S3x2048x256 .i8) (G : Vec Ideal S64x2x256 .bf16) (K : Fin 8192) (n : Fin 256) : EReal :=
  group T G ⟨K.val / 128, by omega⟩ (ix2 ⟨K.val % 128, by omega⟩ n)

/-- One tile's product at an index. -/
theorem dot_apply (x : FVec Ideal S96x256 .bf16) (w : FVec Ideal S256x256 .bf16) (b : Fin 96) (n : Fin 256) :
    matmul dot_S96x256_S256x256_S96x256_1_0_0_1_n_n none x w (constant S96x256 .f32 0x00000000#32) (ix2 b n)
      = ∑ q : Fin 256, x (ix2 b q) * w (ix2 q n) := by
  pointwise

/-- One tile's partial product, over the rows of the whole weights. -/
theorem part_apply (X : Vec Ideal S96x8192 .bf16) (T : Vec Ideal S3x2048x256 .i8) (G : Vec Ideal S64x2x256 .bf16) (k : Fin 32)
    (b : Fin 96) (n : Fin 256) :
    part X T G k (ix2 b n) = ∑ q : Fin 256, X (ix2 b ⟨256 * k.val + q.val, by omega⟩) * wRow T G ⟨256 * k.val + q.val, by omega⟩ n := by
  unfold part
  rw [dot_apply]
  refine Finset.sum_congr rfl fun q _ => ?_
  rw [ldX_apply, tile_split]
  congr 1
  have hg : ∀ (g g' : Fin 64) (ρ ρ' : Fin 128), g.val = g'.val → ρ.val = ρ'.val → group T G g (ix2 ρ n) = group T G g' (ix2 ρ' n) :=
    fun g g' ρ ρ' e e' => by rw [Fin.ext e, Fin.ext e']
  unfold wRow
  split_ifs with h
  · exact hg _ _ _ _ (by show 2 * k.val = (256 * k.val + q.val) / 128; omega) (by show q.val = (256 * k.val + q.val) % 128; omega)
  · exact hg _ _ _ _ (by show 2 * k.val + 1 = (256 * k.val + q.val) / 128; omega) (by show q.val - 128 = (256 * k.val + q.val) % 128; omega)

/-- The running sum after tile `k` is the sum of the partial products. -/
theorem acc_apply (X : Vec Ideal S96x8192 .bf16) (T : Vec Ideal S3x2048x256 .i8) (G : Vec Ideal S64x2x256 .bf16) (b : Fin 96) (n : Fin 256) :
    ∀ (k : ℕ) (h : k < 32), acc X T G k h (ix2 b n) = ∑ k' : Fin (k + 1), part X T G ⟨k'.val, by omega⟩ (ix2 b n)
  | 0, h => by rw [acc, Fin.sum_univ_one]; rfl
  | k + 1, h => by
    rw [Fin.sum_univ_castSucc]
    show acc X T G k _ (ix2 b n) + part X T G ⟨k + 1, h⟩ (ix2 b n) = _
    rw [acc_apply X T G b n k (by omega)]
    rfl

/-- A sum over tiles and their rows, regrouped by code, group and triple. -/
theorem sum_tiles (f : Fin 8192 → EReal) :
    ∑ k : Fin 32, ∑ q : Fin 256, f ⟨256 * k.val + q.val, by omega⟩ = ∑ i : Fin 4, ∑ g : Fin 64, ∑ r : Fin 32, f ⟨128 * g.val + 32 * i.val + r.val, by omega⟩ := by
  have e1 : ∑ k : Fin 32, ∑ q : Fin 256, f ⟨256 * k.val + q.val, by omega⟩ = ∑ K : Fin 8192, f K := by
    rw [← Fintype.sum_prod_type']
    exact Fintype.sum_equiv (finProdFinEquiv (m := 32) (n := 256)) _ _ fun p => congrArg f (Fin.ext (by simp [finProdFinEquiv]; omega))
  have e2 : ∑ K : Fin 8192, f K = ∑ g : Fin 64, ∑ i : Fin 4, ∑ r : Fin 32, f ⟨128 * g.val + 32 * i.val + r.val, by omega⟩ := by
    have : ∑ K : Fin 8192, f K = ∑ g : Fin 64, ∑ ρ : Fin 128, f ⟨128 * g.val + ρ.val, by omega⟩ := by
      rw [← Fintype.sum_prod_type']
      exact (Fintype.sum_equiv (finProdFinEquiv (m := 64) (n := 128)) _ _ fun p => congrArg f (Fin.ext (by simp [finProdFinEquiv]; omega))).symm
    rw [this]
    refine Finset.sum_congr rfl fun g _ => ?_
    rw [← Fintype.sum_prod_type']
    exact (Fintype.sum_equiv (finProdFinEquiv (m := 4) (n := 32)) _ _ fun p => congrArg f (Fin.ext (by simp [finProdFinEquiv]; omega))).symm
  rw [e1, e2, Finset.sum_comm]

/-- The final scaling at an index. -/
theorem scale_out (a : FVec Ideal S96x256 .f32) (ws : Vec Ideal S1x256 .f32) (b : Fin 96) (n : Fin 256) :
    truncf .bf16 (mulf a (broadcastTo S96x256 (shapeCast S1x256 ws shapeCasts_S1x256_S1x256) broadcasts_S1x256_S96x256)) bitsLt_bf16_f32 (ix2 b n)
      = a (ix2 b n) * ws (ix2 0 n) := by
  pointwise

/-- The output block at a row and a column. -/
theorem outOf_apply (X : Vec Ideal S96x8192 .bf16) (T : Vec Ideal S3x2048x256 .i8) (G : Vec Ideal S64x2x256 .bf16) (ws : Vec Ideal S1x256 .f32)
    (b : Fin 96) (n : Fin 256) :
    outOf X T G ws (ix2 b n)
      = (∑ i : Fin 4, ∑ g : Fin 64, ∑ r : Fin 32, X (ix2 b ⟨128 * g.val + 32 * i.val + r.val, by omega⟩) * wAt T G g i r n) * ws (ix2 0 n) := by
  unfold outOf
  rw [scale_out, acc_apply]
  congr 1
  simp only [part_apply]
  refine (sum_tiles fun K => X (ix2 b K) * wRow T G K n).trans ?_
  refine Finset.sum_congr rfl fun i _ => Finset.sum_congr rfl fun g _ => Finset.sum_congr rfl fun r _ => ?_
  congr 1
  rw [← group_apply]
  unfold wRow
  have hg : ∀ (g g' : Fin 64) (ρ ρ' : Fin 128), g.val = g'.val → ρ.val = ρ'.val → group T G g (ix2 ρ n) = group T G g' (ix2 ρ' n) :=
    fun g g' ρ ρ' e e' => by rw [Fin.ext e, Fin.ext e']
  exact hg _ _ _ _ (by show (128 * g.val + 32 * i.val + r.val) / 128 = g.val; omega)
    (by show (128 * g.val + 32 * i.val + r.val) % 128 = 32 * i.val + r.val; omega)

/-- The packed scales at an index: the scale times `4096`. -/
theorem gpOf_apply (gs : Vec Ideal S64x256 .f32) (g : Fin 64) (p : Fin 2) (n : Fin 256) :
    gpOf gs (ix3 g p n) = gs (ix2 g n) * ((4096 : ℝ) : EReal) := by
  have h4096 : Ideal.ofBits FTy.f32 0x45800000#32 = ((4096 : ℝ) : EReal) := by
    simp [Ideal.ofBits, Ideal.ieee, -EReal.coe_mul]; norm_num
  unfold gpOf
  pointwise
  rw [h4096, ite_self]

end Cert.KernelIdeal.Tile

end
-- ==== Proof.Pieces.lean ====
/-
  What the body's stores leave in its two carried scratches, as one list of pieces for each: the permuted activations
  (sixty-four blocks of 128 columns) and the transposed weight block (ninety-six blocks of 128 by 128 bytes), and what
  each list is when it is read back at an index.
-/
module

public import proofs.«01_k».proof.Proof.Tile
public import proofs.«01_k».proof.Proof.Gen.KernelIdeal.Skeleton
public import Idealize.ShloMosaic.Lib.Pipeline.Value

@[expose] public section

noncomputable section

namespace Cert.KernelIdeal.Tile

open Cert.KernelIdeal Cert.KernelIdeal.Gen Cert.Codes
open Idealize.ShloMosaic Idealize.SL.Sem

variable {F : FTy → Type} [FloatOps F]

/-! ## The transposed weight block -/

/-- A stored 128 by 128 tile lies inside the transposed weights. -/
theorem inbTd (p : Fin 3) (j : Fin 16) (n : Fin 2) :
    ∀ a, (![p.val, 128 * j.val, 128 * n.val] : Fin 3 → ℕ) a + S1x128x128.size a ≤ S3x2048x256.size a := fun a => by
  have := p.isLt; have := j.isLt; have := n.isLt
  match a with
  | ⟨0, _⟩ => show p.val + 1 ≤ 3; omega
  | ⟨1, _⟩ => show 128 * j.val + 128 ≤ 2048; omega
  | ⟨2, _⟩ => show 128 * n.val + 128 ≤ 256; omega

/-- A loaded 128 by 128 tile lies inside the weight block. -/
theorem inbTs (p : Fin 3) (j : Fin 16) (n : Fin 2) :
    ∀ a, (![p.val, 128 * n.val, 128 * j.val] : Fin 3 → ℕ) a + S1x128x128.size a ≤ S3x256x2048.size a := fun a => by
  have := p.isLt; have := j.isLt; have := n.isLt
  match a with
  | ⟨0, _⟩ => show p.val + 1 ≤ 3; omega
  | ⟨1, _⟩ => show 128 * n.val + 128 ≤ 256; omega
  | ⟨2, _⟩ => show 128 * j.val + 128 ≤ 2048; omega

/-- One 128 by 128 block of the bytes of plane `p`, transposed. -/
def tPiece (W : Vec F S3x256x2048 .i8) (p : Fin 3) (j : Fin 16) (n : Fin 2) : View.Piece (Elt F) S3x2048x256 .i8 :=
  ⟨Rect.unit (s := S3x2048x256) ![p.val, 128 * j.val, 128 * n.val] S1x128x128.size (inbTd p j n),
    k0_pay3 (F := F) (View.ld W (Rect.unit (s := S3x256x2048) ![p.val, 128 * n.val, 128 * j.val] S1x128x128.size (inbTs p j n)))⟩

/-- The first `k` blocks, the last of them first. -/
def tPieces (W : Vec F S3x256x2048 .i8) : (k : ℕ) → k ≤ 96 → List (View.Piece (Elt F) S3x2048x256 .i8)
  | 0, _ => []
  | k + 1, h => tPiece W ⟨k % 3, by omega⟩ ⟨k / 6, by omega⟩ ⟨k / 3 % 2, by omega⟩ :: tPieces W k (by omega)

/-- Every store into the transposed weights is one of the tiles. -/
theorem mem_tPieces (W : Vec F S3x256x2048 .i8) : ∀ (k : ℕ) (h : k ≤ 96), ∀ q ∈ tPieces W k h, ∃ p j n, q = tPiece W p j n
  | 0, _, q, hq => absurd hq List.not_mem_nil
  | k + 1, h, q, hq => by
    rcases List.mem_cons.mp hq with e | hq
    · exact ⟨_, _, _, e⟩
    · exact mem_tPieces W k _ q hq

/-- The whole block transposed. -/
def trOf (W : Vec F S3x256x2048 .i8) : Vec F S3x2048x256 .i8 := fun y => W (ix3 (y 0) (y 2) (y 1))

/-- What a tile stores is the transposed block at its place. -/
theorem tPiece_val (W : Vec F S3x256x2048 .i8) (p : Fin 3) (j : Fin 16) (n : Fin 2) (x : S1x128x128.Idx) :
    (tPiece W p j n).2 x = trOf W ((tPiece W p j n).1.emb x) := by
  obtain ⟨a, b, rfl⟩ : ∃ (a b : Fin 128), x = ix3 0 a b := ⟨x 1, x 2, by
    funext c; match c with | ⟨0, _⟩ => exact Subsingleton.elim (α := Fin 1) _ _ | ⟨1, _⟩ => rfl | ⟨2, _⟩ => rfl⟩
  unfold tPiece trOf k0_pay3
  dsimp only
  pointwise
  refine congrArg W ?_
  funext c
  match c with
  | ⟨0, _⟩ => exact Fin.ext (by show p.val = p.val + 1 * 0; omega)
  | ⟨1, _⟩ => exact Fin.ext (by show 128 * n.val + b.val = 128 * n.val + 1 * b.val; omega)
  | ⟨2, _⟩ => exact Fin.ext (by show 128 * j.val + a.val = 128 * j.val + 1 * a.val; omega)

/-! ## The permuted activations -/

/-- A group of 128 columns lies inside the activations. -/
theorem inbXd (g : Fin 64) : ∀ a, (![0, 128 * g.val] : Fin 2 → ℕ) a + S96x128.size a ≤ S96x8192.size a := fun a => by
  have := g.isLt
  match a with
  | ⟨0, _⟩ => show 0 + 96 ≤ 96; omega
  | ⟨1, _⟩ => show 128 * g.val + 128 ≤ 8192; omega

/-- Group `g`'s 128 columns of the activations, permuted. -/
def xPiece (X : Vec F S96x8192 .bf16) (g : Fin 64) : View.Piece (Elt F) S96x8192 .bf16 :=
  ⟨Rect.unit (s := S96x8192) ![0, 128 * g.val] S96x128.size (inbXd g),
    k0_pay6 k0_pay5 (View.ld X (Rect.unit (s := S96x8192) ![0, 128 * g.val] S96x128.size (inbXd g)))⟩

/-- The first `k` groups, the last of them first. -/
def xPieces (X : Vec F S96x8192 .bf16) : (k : ℕ) → k ≤ 64 → List (View.Piece (Elt F) S96x8192 .bf16)
  | 0, _ => []
  | k + 1, h => xPiece X ⟨k, by omega⟩ :: xPieces X k (by omega)

/-- Every store into the permuted activations is one of the groups. -/
theorem mem_xPieces (X : Vec F S96x8192 .bf16) : ∀ (k : ℕ) (h : k ≤ 64), ∀ q ∈ xPieces X k h, ∃ g, q = xPiece X g
  | 0, _, q, hq => absurd hq List.not_mem_nil
  | k + 1, h, q, hq => by
    rcases List.mem_cons.mp hq with e | hq
    · exact ⟨_, e⟩
    · exact mem_xPieces X k _ q hq

/-- The lane that lane `d` of a permuted group comes from. -/
theorem pay5_apply (r : Fin 96) (d : Fin 128) : k0_pay5 (ix2 r d) = BitVec.ofNat 32 (d.val % 32 * 4 + d.val / 32) := by
  unfold k0_pay5
  pointwise
  revert d
  decide +kernel

/-- The source column of a destination column, computed on words. -/
theorem lane_toNat (d : Fin 128) :
    (Scalar.select (IntOp.cmpi CmpIPredicate.slt (BitVec.ofNat 32 (d.val % 32 * 4 + d.val / 32)) 0#32)
      (IntOp.addi (BitVec.ofNat 32 (d.val % 32 * 4 + d.val / 32)) 128#32) (BitVec.ofNat 32 (d.val % 32 * 4 + d.val / 32))).toNat % 128
      = d.val % 32 * 4 + d.val / 32 := by
  revert d
  decide +kernel

/-- A permuted group at an index. -/
theorem pay6_apply (v : Vec Ideal S96x128 .bf16) (r : Fin 96) (d : Fin 128) :
    k0_pay6 (F := Ideal) k0_pay5 v (ix2 r d) = v (ix2 r ⟨d.val % 32 * 4 + d.val / 32, by omega⟩) := by
  unfold k0_pay6
  pointwise
  simp only [pay5_apply, lane_toNat]

/-- The permuted activations: column `128 g + 32 i + r` is column `128 g + 4 r + i`. -/
def permOf (X : Vec Ideal S96x8192 .bf16) : Vec Ideal S96x8192 .bf16 :=
  fun y => X (ix2 (y 0) ⟨128 * ((y 1).val / 128) + ((y 1).val % 32 * 4 + (y 1).val % 128 / 32), by
    have := (y 1).isLt; change (y 1).val < 8192 at this; show _ < 8192; omega⟩)

/-- What a group stores is the permuted block at its place. -/
theorem xPiece_val (X : Vec Ideal S96x8192 .bf16) (g : Fin 64) (x : S96x128.Idx) :
    (xPiece X g).2 x = permOf X ((xPiece X g).1.emb x) := by
  obtain ⟨r, d, rfl⟩ : ∃ (r : Fin 96) (d : Fin 128), x = ix2 r d := ⟨x 0, x 1, by funext a; match a with | ⟨0, _⟩ => rfl | ⟨1, _⟩ => rfl⟩
  unfold xPiece permOf
  dsimp only
  rw [pay6_apply]
  refine congrArg X ?_
  have hd := d.isLt
  funext c
  match c with
  | ⟨0, _⟩ => exact Fin.ext rfl
  | ⟨1, _⟩ =>
    refine Fin.ext ?_
    show 128 * g.val + 1 * (d.val % 32 * 4 + d.val / 32)
      = 128 * ((128 * g.val + 1 * d.val) / 128) + ((128 * g.val + 1 * d.val) % 32 * 4 + (128 * g.val + 1 * d.val) % 128 / 32)
    omega

/-- The transposed block's pieces read back, where one of them was stored. -/
theorem canon_tPieces (W : Vec F S3x256x2048 .i8) (y : S3x2048x256.Idx)
    (hy : ∃ q ∈ tPieces W 96 le_rfl, y ∈ q.1.set) : View.canon (tPieces W 96 le_rfl) y = trOf W y :=
  View.canon_apply_of_pieces (trOf W) _ (fun q hq x => by
    obtain ⟨p, j, n, rfl⟩ := mem_tPieces W 96 le_rfl q hq
    exact tPiece_val W p j n x) y hy

/-- The permuted activations' pieces read back, where one of them was stored. -/
theorem canon_xPieces (X : Vec Ideal S96x8192 .bf16) (y : S96x8192.Idx)
    (hy : ∃ q ∈ xPieces X 64 le_rfl, y ∈ q.1.set) : View.canon (xPieces X 64 le_rfl) y = permOf X y :=
  View.canon_apply_of_pieces (permOf X) _ (fun q hq x => by
    obtain ⟨g, rfl⟩ := mem_xPieces X 64 le_rfl q hq
    exact xPiece_val X g x) y hy

end Cert.KernelIdeal.Tile

end
-- ==== Proof.Outs.lean ====
/-
  The contents that the body's runs leave in the output block and in the two carried scratches, as the functions of
  `Tile` and `Pieces`: each case's stores are exactly their lists of pieces.
-/
module

public import proofs.«01_k».proof.Proof.Pieces
public import proofs.«01_k».proof.Proof.Gen.KernelIdeal.Frame
public import Idealize.ShloMosaic.Lib.Pipeline.ValueKit

@[expose] public section

set_option maxRecDepth 16384

noncomputable section

namespace Cert.KernelIdeal.Tile

open Cert.KernelIdeal Cert.KernelIdeal.Gen Cert.Codes
open Idealize.ShloMosaic Idealize.ShloMosaic.TcCoe Idealize.SL.Sem

variable {F : FTy → Type} [FloatOps F]

/-- The zero offset of a matrix. -/
theorem hz2 : (![0, 0] : Fin 2 → Nat) = fun _ => 0 := funext fun a => by fin_cases a <;> rfl
/-- The zero offset of a rank-three array. -/
theorem hz3 : (![0, 0, 0] : Fin 3 → Nat) = fun _ => 0 := funext fun a => by fin_cases a <;> rfl

/-- Case B's one store into the output block. -/
theorem pieces_B (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    (kernelRun0_B c i arg1 harg1 arg2 harg2 arg3 harg3 arg4 harg4 arg5 harg5 arg6 harg6 arg7 harg7 arg8 harg8 hc0 hc1 hc2 x0 x1 x2 x3 xs0 xs1).1
      = [⟨Rect.unit (s := S96x256) ![0, 0] S96x256.size inb_S96x256_S96x256_0_0,
          outOf (arg6.view.read (Elt F) (harg6.unread xs0)) (arg7.view.read (Elt F) (harg7.unread xs1))
            (arg8.view.read (Elt F) (arg8.view.writes (Elt F) arg8.view.junk
              [⟨Rect.unit (s := S64x2x256) ![0, 0, 0] S64x2x256.size inb_S64x2x256_S64x2x256_0_0_0,
                gpOf (View.ld (arg3.view.read (Elt F) (harg3.unread x2)) (Rect.unit (s := S64x256) ![0, 0] S64x256.size inb_S64x256_S64x256_0_0))⟩]))
            (View.ld (arg4.view.read (Elt F) (harg4.unread x3)) (Rect.unit (s := S1x256) ![0, 0] S1x256.size inb_S1x256_S1x256_0_0))⟩] := by
  sl_kernel_rfl

/-- Case B's output block. -/
theorem out_B (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    out0_B_4 c i arg1 harg1 arg2 harg2 arg3 harg3 arg4 harg4 arg5 harg5 arg6 harg6 arg7 harg7 arg8 harg8 hc0 hc1 hc2 x0 x1 x2 x3 xs0 xs1 = outOf xs0 xs1 (gpOf x2) x3 := by
  unfold out0_B_4
  rw [View.read_writes_eq_canon _ _ _ (cover0_B_4 c i arg1 harg1 arg2 harg2 arg3 harg3 arg4 harg4 arg5 harg5 arg6 harg6 arg7 harg7 arg8 harg8 hc0 hc1 hc2 x0 x1 x2 x3 xs0 xs1), pieces_B, View.canon_unit_zero hz2,
    View.read_writes_eq_canon _ _ _ (fun y => ⟨_, List.mem_singleton_self _, View.mem_set_unit_zero hz3 inb_S64x2x256_S64x2x256_0_0_0 y⟩), View.canon_unit_zero hz3,
    harg3.read_unread, harg4.read_unread, harg6.read_unread, harg7.read_unread, View.ld_unit_zero (S := S64x256) hz2, View.ld_unit_zero (S := S1x256) hz2]

/-- Case C's one store into the output block. -/
theorem pieces_C (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    (kernelRun0_C c i arg1 harg1 arg2 harg2 arg3 harg3 arg4 harg4 arg5 harg5 arg6 harg6 arg7 harg7 arg8 harg8 hc0 hc1 hc2 x0 x1 x2 x3 xs0 xs1).1
      = [⟨Rect.unit (s := S96x256) ![0, 0] S96x256.size inb_S96x256_S96x256_0_0,
          outOf (arg6.view.read (Elt F) (harg6.unread xs0)) (arg7.view.read (Elt F) (harg7.unread xs1))
            (arg8.view.read (Elt F) (arg8.view.writes (Elt F) arg8.view.junk
              [⟨Rect.unit (s := S64x2x256) ![0, 0, 0] S64x2x256.size inb_S64x2x256_S64x2x256_0_0_0,
                gpOf (View.ld (arg3.view.read (Elt F) (harg3.unread x2)) (Rect.unit (s := S64x256) ![0, 0] S64x256.size inb_S64x256_S64x256_0_0))⟩]))
            (View.ld (arg4.view.read (Elt F) (harg4.unread x3)) (Rect.unit (s := S1x256) ![0, 0] S1x256.size inb_S1x256_S1x256_0_0))⟩] := by
  sl_kernel_rfl

/-- Case C's output block. -/
theorem out_C (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    out0_C_4 c i arg1 harg1 arg2 harg2 arg3 harg3 arg4 harg4 arg5 harg5 arg6 harg6 arg7 harg7 arg8 harg8 hc0 hc1 hc2 x0 x1 x2 x3 xs0 xs1 = outOf xs0 xs1 (gpOf x2) x3 := by
  unfold out0_C_4
  rw [View.read_writes_eq_canon _ _ _ (cover0_C_4 c i arg1 harg1 arg2 harg2 arg3 harg3 arg4 harg4 arg5 harg5 arg6 harg6 arg7 harg7 arg8 harg8 hc0 hc1 hc2 x0 x1 x2 x3 xs0 xs1), pieces_C, View.canon_unit_zero hz2,
    View.read_writes_eq_canon _ _ _ (fun y => ⟨_, List.mem_singleton_self _, View.mem_set_unit_zero hz3 inb_S64x2x256_S64x2x256_0_0_0 y⟩), View.canon_unit_zero hz3,
    harg3.read_unread, harg4.read_unread, harg6.read_unread, harg7.read_unread, View.ld_unit_zero (S := S64x256) hz2, View.ld_unit_zero (S := S1x256) hz2]

/-- Case A's stores into the transposed scratch. -/
theorem tpieces_A (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) :
    (kernelRun0_A c i arg1 harg1 arg2 harg2 arg3 harg3 arg4 harg4 arg5 harg5 arg6 harg6 arg7 harg7 arg8 harg8 hc0 hc1 hc2 x0 x1 x2 x3).2.2.1 = tPieces (arg2.view.read (Elt F) (harg2.unread x1)) 96 le_rfl := by
  sl_kernel_rfl

/-- Case A leaves the weight block transposed. -/
theorem tout_A (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) :
    sout0_A_1 c i arg1 harg1 arg2 harg2 arg3 harg3 arg4 harg4 arg5 harg5 arg6 harg6 arg7 harg7 arg8 harg8 hc0 hc1 hc2 x0 x1 x2 x3 = trOf x1 := by
  have hcov := scover0_A_1 c i arg1 harg1 arg2 harg2 arg3 harg3 arg4 harg4 arg5 harg5 arg6 harg6 arg7 harg7 arg8 harg8 hc0 hc1 hc2 x0 x1 x2 x3
  unfold sout0_A_1
  rw [View.read_writes_eq_canon _ _ _ hcov]
  rw [tpieces_A, harg2.read_unread] at hcov ⊢
  exact funext fun y => canon_tPieces x1 y (hcov y)

/-- Case B's stores into the transposed scratch. -/
theorem tpieces_B (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    (kernelRun0_B c i arg1 harg1 arg2 harg2 arg3 harg3 arg4 harg4 arg5 harg5 arg6 harg6 arg7 harg7 arg8 harg8 hc0 hc1 hc2 x0 x1 x2 x3 xs0 xs1).2.2.1 = tPieces (arg2.view.read (Elt F) (harg2.unread x1)) 96 le_rfl := by
  sl_kernel_rfl

/-- Case B leaves the weight block transposed. -/
theorem tout_B (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) (xs0 : Vec F S96x8192 .bf16) (xs1 : Vec F S3x2048x256 .i8) :
    sout0_B_1 c i arg1 harg1 arg2 harg2 arg3 harg3 arg4 harg4 arg5 harg5 arg6 harg6 arg7 harg7 arg8 harg8 hc0 hc1 hc2 x0 x1 x2 x3 xs0 xs1 = trOf x1 := by
  have hcov := scover0_B_1 c i arg1 harg1 arg2 harg2 arg3 harg3 arg4 harg4 arg5 harg5 arg6 harg6 arg7 harg7 arg8 harg8 hc0 hc1 hc2 x0 x1 x2 x3 xs0 xs1
  unfold sout0_B_1
  rw [View.read_writes_eq_canon _ _ _ hcov]
  rw [tpieces_B, harg2.read_unread] at hcov ⊢
  exact funext fun y => canon_tPieces x1 y (hcov y)

/-- Case A's stores into the activations' scratch. -/
theorem xpieces_A (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec F S96x8192 .bf16) (x1 : Vec F S3x256x2048 .i8) (x2 : Vec F S64x256 .f32) (x3 : Vec F S1x256 .f32) :
    (kernelRun0_A c i arg1 harg1 arg2 harg2 arg3 harg3 arg4 harg4 arg5 harg5 arg6 harg6 arg7 harg7 arg8 harg8 hc0 hc1 hc2 x0 x1 x2 x3).2.1 = xPieces (arg1.view.read (Elt F) (harg1.unread x0)) 64 le_rfl := by
  sl_kernel_rfl

/-- Case A leaves the activations permuted. -/
theorem xout_A (c : Dev nD) (i : grid0.Coords) (arg1 : Memref sig .tc .vmem S96x8192 .bf16) (harg1 : arg1.IsWhole) (arg2 : Memref sig .tc .vmem S3x256x2048 .i8) (harg2 : arg2.IsWhole)
    (arg3 : Memref sig .tc .vmem S64x256 .f32) (harg3 : arg3.IsWhole) (arg4 : Memref sig .tc .vmem S1x256 .f32) (harg4 : arg4.IsWhole) (arg5 : Memref sig .tc .vmem S96x256 .bf16) (harg5 : arg5.IsWhole)
    (arg6 : Memref sig .tc .vmem S96x8192 .bf16) (harg6 : arg6.IsWhole) (arg7 : Memref sig .tc .vmem S3x2048x256 .i8) (harg7 : arg7.IsWhole) (arg8 : Memref sig .tc .vmem S64x2x256 .bf16) (harg8 : arg8.IsWhole)
    (hc0 hc1 hc2)
    (x0 : Vec Ideal S96x8192 .bf16) (x1 : Vec Ideal S3x256x2048 .i8) (x2 : Vec Ideal S64x256 .f32) (x3 : Vec Ideal S1x256 .f32) :
    sout0_A_0 c i arg1 harg1 arg2 harg2 arg3 harg3 arg4 harg4 arg5 harg5 arg6 harg6 arg7 harg7 arg8 harg8 hc0 hc1 hc2 x0 x1 x2 x3 = permOf x0 := by
  have hcov := scover0_A_0 c i arg1 harg1 arg2 harg2 arg3 harg3 arg4 harg4 arg5 harg5 arg6 harg6 arg7 harg7 arg8 harg8 hc0 hc1 hc2 x0 x1 x2 x3
  unfold sout0_A_0
  rw [View.read_writes_eq_canon _ _ _ hcov]
  rw [xpieces_A, harg1.read_unread] at hcov ⊢
  exact funext fun y => canon_xPieces x0 y (hcov y)

end Cert.KernelIdeal.Tile

end
-- ==== Proof.Blocks.lean ====
/-
  The input blocks at a grid point, read off the arguments.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

noncomputable section

namespace Cert.KernelIdeal.Tile

open Cert.KernelIdeal Cert.KernelIdeal.Gen Cert.Codes
open Idealize.ShloMosaic Idealize.ShloMosaic.TcCoe Idealize.SL.Sem

variable (m : (ℓ : Loc nD τ sig) → Buf (Elt Ideal) ℓ)

/-- The activations. -/
abbrev xA (c : Dev nD) : FVec Ideal S96x1x8192 .bf16 := m ((c : Thread nD τ).loc main_arg0)
/-- The packed weights. -/
abbrev wA (c : Dev nD) : IVec S7424x2048x3 8 := m ((c : Thread nD τ).loc main_arg1)
/-- The column scales. -/
abbrev sA (c : Dev nD) : FVec Ideal S7424 .f32 := m ((c : Thread nD τ).loc main_arg2)
/-- The group scales. -/
abbrev gA (c : Dev nD) : FVec Ideal S7424x64 .f32 := m ((c : Thread nD τ).loc main_arg3)

/-- The weights with their bytes moved to the front. -/
theorem V_v0 (c : Dev nD) : V m c main_v0 = transpose S3x7424x2048 [2, 0, 1] (wA m c) transposes_S7424x2048x3_S3x7424x2048_2_0_1 := rfl
/-- The activations as a matrix. -/
theorem V_v1 (c : Dev nD) : V m c main_v1 = shapeCast S96x8192 (xA m c) shapeCasts_S96x1x8192_S96x8192 := rfl
/-- The group scales transposed. -/
theorem V_v2 (c : Dev nD) : V m c main_v2 = transpose S64x7424 [1, 0] (gA m c) transposes_S7424x64_S64x7424_1_0 := rfl
/-- The column scales as a row. -/
theorem V_v3 (c : Dev nD) : V m c main_v3 = shapeCast S1x7424 (sA m c) shapeCasts_S7424_S1x7424 := rfl

/-- Which block each window shows at a point. -/
theorem idx (t : Fin cfg0.N) : win0_0.index t = ![0, 0] ∧ win0_1.index t = ![0, min t.val 28, 0] ∧ win0_2.index t = ![0, t.val - 1]
    ∧ win0_3.index t = ![0, t.val - 1] ∧ win0_4.index t = ![0, t.val - 1] :=
  (by decide +kernel : ∀ t : Fin grid0.N, win0_0.index t = ![0, 0] ∧ win0_1.index t = ![0, min t.val 28, 0] ∧ win0_2.index t = ![0, t.val - 1]
    ∧ win0_3.index t = ![0, t.val - 1] ∧ win0_4.index t = ![0, t.val - 1]) t

/-- The activations' block is the whole array. -/
theorem iblk0_apply (c : Dev nD) (t : Fin cfg0.N) (b : Fin 96) (k : Fin 8192) :
    (iblk m c 0 t : Vec Ideal S96x8192 .bf16) (ix2 b k) = xA m c (ix3 b 0 k) := by
  have e : (iblk m c 0 t : Vec Ideal S96x8192 .bf16) (ix2 b k) = V m c main_v1 (ix2 b k) := by
    blk_ext [iblk, (idx t).1]
  rw [e, V_v1]
  pointwise

/-- The weights' block at an index. -/
theorem iblk1_apply (c : Dev nD) (t : Fin cfg0.N) (p : Fin 3) (n : Fin 256) (j : Fin 2048) :
    (iblk m c 1 t : Vec Ideal S3x256x2048 .i8) (ix3 p n j) = wA m c (ix3 ⟨256 * min t.val 28 + n.val, by omega⟩ j p) := by
  have e : (iblk m c 1 t : Vec Ideal S3x256x2048 .i8) (ix3 p n j) = V m c main_v0 (ix3 p ⟨256 * min t.val 28 + n.val, by omega⟩ j) := by
    blk_ext [iblk, (idx t).2.1]
  rw [e, V_v0]
  pointwise

/-- The group scales' block at an index. -/
theorem iblk2_apply (c : Dev nD) (t : Fin cfg0.N) (h : t.val - 1 < 29) (g : Fin 64) (n : Fin 256) :
    (iblk m c 2 t : Vec Ideal S64x256 .f32) (ix2 g n) = gA m c (ix2 ⟨256 * (t.val - 1) + n.val, by omega⟩ g) := by
  have e : (iblk m c 2 t : Vec Ideal S64x256 .f32) (ix2 g n) = V m c main_v2 (ix2 g ⟨256 * (t.val - 1) + n.val, by omega⟩) := by
    blk_ext [iblk, (idx t).2.2.1]
  rw [e, V_v2]
  pointwise

/-- The column scales' block at an index. -/
theorem iblk3_apply (c : Dev nD) (t : Fin cfg0.N) (h : t.val - 1 < 29) (n : Fin 256) :
    (iblk m c 3 t : Vec Ideal S1x256 .f32) (ix2 0 n) = sA m c (ix1 ⟨256 * (t.val - 1) + n.val, by omega⟩) := by
  have e : (iblk m c 3 t : Vec Ideal S1x256 .f32) (ix2 0 n) = V m c main_v3 (ix2 0 ⟨256 * (t.val - 1) + n.val, by omega⟩) := by
    blk_ext [iblk, (idx t).2.2.2.1]
  rw [e, V_v3]
  pointwise

end Cert.KernelIdeal.Tile

end
-- ==== Proof.Final.lean ====
/-
  From the grid points to the result array: what the scratches carry, what each point writes back, the array after the run.
-/
module

public import proofs.«01_k».proof.Proof.Bits
public import proofs.«01_k».proof.Proof.Dot
public import proofs.«01_k».proof.Proof.Outs
public import proofs.«01_k».proof.Proof.Blocks
public import proofs.«01_k».proof.Proof.Gen.KernelIdeal.Value

@[expose] public section

noncomputable section

namespace Cert.KernelIdeal.Tile

open Cert.KernelIdeal Cert.KernelIdeal.Gen Cert.Codes
open Idealize.ShloMosaic Idealize.ShloMosaic.TcCoe Idealize.SL.Sem

variable (m : (ℓ : Loc nD τ sig) → Buf (Elt Ideal) ℓ)

/-- What the first point leaves in the two scratches. -/
theorem outs_first (c : Dev nD) (t : Fin cfg0.N) (h0 : t.val % 30 = 0) (h1 : ¬(1 ≤ t.val % 30 ∧ t.val % 30 ≤ 28)) (h2 : ¬t.val % 30 = 29) :
    (outsAt0 m c t.val t.isLt).2.1 = permOf (iblk m c 0 t) ∧ (outsAt0 m c t.val t.isLt).2.2 = trOf (iblk m c 1 t) := by
  rw [outsAt0_A m c t h0 h1 h2]
  constructor
  · dsimp only
    rw [xout_A]
  · dsimp only
    rw [tout_A]

/-- What a middle point leaves in the two scratches and in its output block. -/
theorem outs_next (c : Dev nD) (t : Fin cfg0.N) (h0 : ¬t.val % 30 = 0) (h1 : (1 ≤ t.val % 30 ∧ t.val % 30 ≤ 28)) (h2 : ¬t.val % 30 = 29) :
    (outsAt0 m c t.val t.isLt).2.1 = (outsAt0 m c (t.val - 1) (Nat.lt_of_le_of_lt (Nat.sub_le _ _) t.isLt)).2.1
      ∧ (outsAt0 m c t.val t.isLt).2.2 = trOf (iblk m c 1 t)
      ∧ (outsAt0 m c t.val t.isLt).1 = outOf (outsAt0 m c (t.val - 1) (Nat.lt_of_le_of_lt (Nat.sub_le _ _) t.isLt)).2.1
          (outsAt0 m c (t.val - 1) (Nat.lt_of_le_of_lt (Nat.sub_le _ _) t.isLt)).2.2 (gpOf (iblk m c 2 t)) (iblk m c 3 t) := by
  rw [outsAt0_B m c t h0 h1 h2]
  refine ⟨?_, ?_, ?_⟩
  · dsimp only
    rfl
  · dsimp only
    rw [tout_B]
  · dsimp only
    rw [out_B]

/-- What the last point leaves in its output block. -/
theorem outs_last (c : Dev nD) (t : Fin cfg0.N) (h0 : ¬t.val % 30 = 0) (h1 : ¬(1 ≤ t.val % 30 ∧ t.val % 30 ≤ 28)) (h2 : t.val % 30 = 29) :
    (outsAt0 m c t.val t.isLt).1 = outOf (outsAt0 m c (t.val - 1) (Nat.lt_of_le_of_lt (Nat.sub_le _ _) t.isLt)).2.1
          (outsAt0 m c (t.val - 1) (Nat.lt_of_le_of_lt (Nat.sub_le _ _) t.isLt)).2.2 (gpOf (iblk m c 2 t)) (iblk m c 3 t) := by
  rw [outsAt0_C m c t h0 h1 h2]
  dsimp only
  rw [out_C]

/-- After point `n`, short of the last, the first scratch holds the activations permuted and the second the point's weights transposed. -/
theorem carried (c : Dev nD) : ∀ (n : ℕ) (hn : n < cfg0.N), n < 29 →
    (∀ (b : Fin 96) (g : Fin 64) (i : Fin 4) (r : Fin 32), (outsAt0 m c n hn).2.1 (ix2 b ⟨128 * g.val + 32 * i.val + r.val, by omega⟩)
        = xA m c (ix3 b 0 ⟨128 * g.val + 4 * r.val + i.val, by omega⟩))
      ∧ (outsAt0 m c n hn).2.2 = trOf (iblk m c 1 ⟨n, hn⟩)
  | 0, hn, h => by
    obtain ⟨e1, e2⟩ := outs_first m c ⟨0, hn⟩ (by show 0 % 30 = 0; decide) (by show ¬(1 ≤ 0 % 30 ∧ 0 % 30 ≤ 28); decide) (by show ¬0 % 30 = 29; decide)
    refine ⟨fun b g i r => ?_, e2⟩
    rw [e1]
    unfold permOf
    rw [← iblk0_apply m c ⟨0, hn⟩]
    refine congrArg (iblk m c 0 ⟨0, hn⟩ : Vec Ideal S96x8192 .bf16) (congrArg (ix2 b) (Fin.ext ?_))
    show 128 * ((128 * g.val + 32 * i.val + r.val) / 128) + ((128 * g.val + 32 * i.val + r.val) % 32 * 4 + (128 * g.val + 32 * i.val + r.val) % 128 / 32)
      = 128 * g.val + 4 * r.val + i.val
    omega
  | n + 1, hn, h => by
    obtain ⟨e1, e2, -⟩ := outs_next m c ⟨n + 1, hn⟩ (by show ¬(n + 1) % 30 = 0; omega) (by show 1 ≤ (n + 1) % 30 ∧ (n + 1) % 30 ≤ 28; omega)
      (by show ¬(n + 1) % 30 = 29; omega)
    refine ⟨fun b g i r => ?_, e2⟩
    rw [e1]
    exact (carried c n (by omega) (by omega)).1 b g i r

/-- A point after the first leaves in its output block the product of the block before its own. -/
theorem outs_value (c : Dev nD) (t : Fin cfg0.N) (h : 1 ≤ t.val) :
    (outsAt0 m c t.val t.isLt).1 = outOf (outsAt0 m c (t.val - 1) (Nat.lt_of_le_of_lt (Nat.sub_le _ _) t.isLt)).2.1
          (outsAt0 m c (t.val - 1) (Nat.lt_of_le_of_lt (Nat.sub_le _ _) t.isLt)).2.2 (gpOf (iblk m c 2 t)) (iblk m c 3 t) := by
  have hN : t.val < 30 := lt_of_lt_of_eq t.isLt N_0
  by_cases h2 : t.val = 29
  · exact outs_last m c t (by omega) (by omega) (by omega)
  · exact (outs_next m c t (by omega) (by omega) (by omega)).2.2

/-- A decoded tile entry is the code's value times the group's scale. -/
theorem wAt_value (c : Dev nD) (t : Fin cfg0.N) (h : 1 ≤ t.val) (hp : t.val - 1 < cfg0.N) (g : Fin 64) (i : Fin 4) (r : Fin 32) (n : Fin 256)
    (hn : 256 * (t.val - 1) + n.val < 7424) :
    wAt (trOf (iblk m c 1 ⟨t.val - 1, hp⟩)) (gpOf (iblk m c 2 t)) g i r n
      = wVal (wA m c) ⟨256 * (t.val - 1) + n.val, hn⟩ ⟨32 * g.val + r.val, by omega⟩ i * gA m c (ix2 ⟨256 * (t.val - 1) + n.val, hn⟩ g) := by
  have hN : t.val < 30 := lt_of_lt_of_eq t.isLt N_0
  have hw : ∀ p : Fin 3, trOf (iblk m c 1 ⟨t.val - 1, hp⟩) (ix3 p ⟨32 * g.val + r.val, by omega⟩ n)
      = wA m c (ix3 ⟨256 * (t.val - 1) + n.val, hn⟩ ⟨32 * g.val + r.val, by omega⟩ p) := fun p => by
    unfold trOf
    refine (iblk1_apply m c ⟨t.val - 1, hp⟩ p n ⟨32 * g.val + r.val, by omega⟩).trans ?_
    refine congrArg (fun q => wA m c (ix3 q ⟨32 * g.val + r.val, by omega⟩ p)) (Fin.ext ?_)
    show 256 * min (t.val - 1) 28 + n.val = 256 * (t.val - 1) + n.val
    omega
  unfold wAt
  rw [gpOf_apply, hw 0, hw 1, hw 2, iblk2_apply m c t (by omega)]
  unfold wVal
  rw [← e5_value _ (fld_lt _ _ _ _), mul_assoc, mul_comm ((4096 : ℝ) : EReal)]

/-- What a point after the first leaves in its output block. -/
theorem block_value (c : Dev nD) (t : Fin cfg0.N) (h : 1 ≤ t.val) (b : Fin 96) (n : Fin 256) (hn : 256 * (t.val - 1) + n.val < 7424) :
    (outsAt0 m c t.val t.isLt).1 (ix2 b n) = yVal (xA m c) (wA m c) (sA m c) (gA m c) b ⟨256 * (t.val - 1) + n.val, hn⟩ := by
  have hN : t.val < 30 := lt_of_lt_of_eq t.isLt N_0
  obtain ⟨ex, et⟩ := carried m c (t.val - 1) (Nat.lt_of_le_of_lt (Nat.sub_le _ _) t.isLt) (by omega)
  rw [outs_value m c t h, outOf_apply, et, iblk3_apply m c t (by omega)]
  unfold yVal
  refine congrArg (· * sA m c (ix1 ⟨256 * (t.val - 1) + n.val, hn⟩)) ?_
  refine Finset.sum_congr rfl fun i _ => Finset.sum_congr rfl fun g _ => Finset.sum_congr rfl fun r _ => ?_
  rw [ex, wAt_value m c t h _ g i r n hn]

/-- The result array: `yVal` at every index. -/
def yArr (c : Dev nD) : FVec Ideal S96x7424 .bf16 := fun j => yVal (xA m c) (wA m c) (sA m c) (gA m c) (j 0) (j 1)

/-- The result array after the run. -/
theorem final (c : Dev nD) : (dats m 0 c).arrAt 4 cfg0.N = yArr m c := by
  refine (dats m 0 c).arrAt_eq_of_covers 4 _ (by decide +kernel) fun t hf y => ?_
  have hN : t.val < 30 := lt_of_lt_of_eq t.isLt N_0
  have h1 : 1 ≤ t.val := by
    by_contra h
    have h0 : t.val % 30 = 0 := by omega
    have := noFlush0_4_A t ((hcond0_0 t).mpr h0) (fun h => by have := (hcond0_1 t).mp h; omega) (fun h => by have := (hcond0_2 t).mp h; omega)
    rw [this] at hf
    exact Bool.noConfusion hf
  blk_simp
  rw [after0_4]
  obtain ⟨b, n, rfl⟩ : ∃ (b : Fin 96) (n : Fin 256), y = ix2 b n := ⟨y 0, y 1, by
    funext a; match a with | ⟨0, _⟩ => rfl | ⟨1, _⟩ => rfl⟩
  have hn : 256 * (t.val - 1) + n.val < 7424 := by omega
  refine (block_value m c t h1 b n hn).trans ?_
  have e : (win0_4.blk t).view.emb (ix2 b n) = ix2 b (⟨256 * (t.val - 1) + n.val, hn⟩ : Fin 7424) := by
    blk_ext [(idx t).2.2.2.2]
  rw [e]
  rfl

end Cert.KernelIdeal.Tile

end
-- ==== Proof.lean ====
/-
  The proof of `Cert.Claim`: the three frames, the idealization's rewrites, and the kernel's result against the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Ref
public import proofs.«01_k».proof.Proof.Final
public import Idealize.ShloMosaic.Adequacy
public import Idealize.ShloMosaic.Init
public import Idealize.ShloMosaic.Lib.Bf16Pair
public import Idealize.ShloMosaic.Lib.Bf16PairInverse
public import Idealize.ShloMosaic.Lib.Quiescent

@[expose] public section

noncomputable section

namespace Cert.Proof

open Idealize.ShloMosaic Idealize.ShloMosaic.TcCoe Idealize.SL.Sem

/-- The kernel as printed runs and leaves its arguments unchanged. -/
theorem frame_kernel : Cert.quiescent_Kernel := fun m ρ _ => Cert.Kernel.Gen.frame m ρ

/-- The idealized kernel runs and leaves its arguments unchanged. -/
theorem frame_kernelIdeal : Cert.quiescent_KernelIdeal := fun m ρ _ => Cert.KernelIdeal.Gen.frame m ρ

/-- The reference runs and leaves its arguments unchanged. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealization's rewrites keep the words' halves. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _⟩

/-- The idealized kernel's result is the reference's, element by element. -/
theorem algebraic : Cert.algebraic_KernelIdeal_ReferenceIdeal := by
  intro m ρ m' ρ' _ hagree
  refine ⟨fun c => Cert.KernelIdeal.Tile.yArr m c, ?_, ?_⟩
  · exact (θ_run Cert.KernelIdeal.defs _ _).mono (fun _ h c => ⟨(h c).1.trans (Cert.KernelIdeal.Tile.final m c), (h c).2⟩)
      (Cert.KernelIdeal.Value.run_blocks (F := Ideal) m ρ)
  refine (θ_run Cert.ReferenceIdeal.defs _ _).mono (fun _ h c => ⟨(h c).1.trans (funext fun j => ?_), (h c).2⟩)
    (Cert.ReferenceIdeal.Value.run (F := Ideal) m' ρ')
  obtain ⟨b, n, rfl⟩ : ∃ (b : Fin 96) (n : Fin 7424), j = ix2 b n := ⟨j 0, j 1, by
    funext a; match a with | ⟨0, _⟩ => rfl | ⟨1, _⟩ => rfl⟩
  refine (Cert.ReferenceIdeal.Value.ref_apply (StableHlo.launchContents m' c) b n).trans ?_
  show Cert.Codes.yVal (m' ((c.tc : Thread _ _).loc Cert.ReferenceIdeal.main_arg0)) (m' ((c.tc : Thread _ _).loc Cert.ReferenceIdeal.main_arg1))
    (m' ((c.tc : Thread _ _).loc Cert.ReferenceIdeal.main_arg2)) (m' ((c.tc : Thread _ _).loc Cert.ReferenceIdeal.main_arg3)) b n = _
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
